-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![1024, 8192]⟩ ⟨2, ![1024, 16384]⟩ (Layout.meshBlock [2, 2, 4] ![[], [0]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![512, 16384]⟩ ⟨2, ![1024, 16384]⟩ (Layout.meshBlock [2, 2, 4] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v47) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x1024 : Shape := ⟨2, ![512, 1024]⟩
abbrev S1024x8192 : Shape := ⟨2, ![1024, 8192]⟩
abbrev S512x16384 : Shape := ⟨2, ![512, 16384]⟩
abbrev S2x1024x512 : Shape := ⟨3, ![2, 1024, 512]⟩
abbrev S512x8192 : Shape := ⟨2, ![512, 8192]⟩
abbrev S4x16x512 : Shape := ⟨3, ![4, 16, 512]⟩
abbrev S2 : Shape := ⟨1, ![2]⟩
abbrev S32 : Shape := ⟨1, ![32]⟩
abbrev S4 : Shape := ⟨1, ![4]⟩
abbrev S8 : Shape := ⟨1, ![8]⟩
abbrev S1 : Shape := ⟨1, ![1]⟩
abbrev S_ : Shape := ⟨0, ![]⟩
abbrev S1x1024x512 : Shape := ⟨3, ![1, 1024, 512]⟩
abbrev S1024x512 : Shape := ⟨2, ![1024, 512]⟩
abbrev S512x512 : Shape := ⟨2, ![512, 512]⟩
abbrev S512 : Shape := ⟨1, ![512]⟩
abbrev S512x1 : Shape := ⟨2, ![512, 1]⟩
abbrev S1x1x512 : Shape := ⟨3, ![1, 1, 512]⟩
abbrev S1x16x512 : Shape := ⟨3, ![1, 16, 512]⟩
abbrev S16x512 : Shape := ⟨2, ![16, 512]⟩
abbrev S64x512 : Shape := ⟨2, ![64, 512]⟩
abbrev S64x1024 : Shape := ⟨2, ![64, 1024]⟩
abbrev S64x2048 : Shape := ⟨2, ![64, 2048]⟩
abbrev S64x4608 : Shape := ⟨2, ![64, 4608]⟩
abbrev S32x8192 : Shape := ⟨2, ![32, 8192]⟩
abbrev S32x512 : Shape := ⟨2, ![32, 512]⟩
abbrev S1x1x32 : Shape := ⟨3, ![1, 1, 32]⟩
abbrev S32x1 : Shape := ⟨2, ![32, 1]⟩
abbrev S64x16384 : Shape := ⟨2, ![64, 16384]⟩

abbrev nBuf : Space → Nat
  | .hbm => 3
  | .vmem => 7
  | .smem => 0
  | _ => 0

abbrev bufTy : (tb : Table) → Fin (tcTables nBuf tb) → BufTy
  | .hbm, ⟨0, _⟩ => ⟨S512x1024, .f32⟩
  | .hbm, ⟨1, _⟩ => ⟨S1024x8192, .f32⟩
  | .hbm, ⟨2, _⟩ => ⟨S512x16384, .f32⟩
  | .local _ .vmem, ⟨0, _⟩ => ⟨S512x1024, .f32⟩
  | .local _ .vmem, ⟨1, _⟩ => ⟨S512x16384, .f32⟩
  | .local _ .vmem, ⟨2, _⟩ => ⟨S2x1024x512, .f32⟩
  | .local _ .vmem, ⟨3, _⟩ => ⟨S512x8192, .i8⟩
  | .local _ .vmem, ⟨4, _⟩ => ⟨S512x8192, .i8⟩
  | .local _ .vmem, ⟨5, _⟩ => ⟨S4x16x512, .f32⟩
  | .local _ .vmem, ⟨6, _⟩ => ⟨S4x16x512, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 83 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | _ => false

abbrev sig : RefSig :=
  (ofTc nBuf bufTy 1 83 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_10 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_9 : BitVec 32 := 8#32
  let v16 : BitVec 32 := Scalar.muli v9 c8_i32_9
  let v17 : BitVec 32 := Scalar.addi c0_i32_10 v16
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_11 : BitVec 32 := 4#32
  let v18 : BitVec 32 := Scalar.muli v5 c4_i32_11
  let v19 : BitVec 32 := Scalar.addi v17 v18
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_12 : BitVec 32 := 1#32
  let v20 : BitVec 32 := Scalar.muli v8 c1_i32_12
  let v21 : BitVec 32 := Scalar.addi v19 v20
  v21.toNat
def k0_off1 (d0 : Dev nD) (c0_i32_31 : BitVec 32) : Fin 2 → Nat :=
  let c0_32 : Index := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v22 : BitVec 32 := Scalar.muli v2 c8192_i32
  let v42 : BitVec 32 := Scalar.addi v22 c0_i32_31
  let v43 : Index := Scalar.indexCast v42
  ![0, v43.toNat]
def k0_dev2 (d0 : Dev nD) : Nat :=
  let c0_i32_46 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_45 : BitVec 32 := 8#32
  let v65 : BitVec 32 := Scalar.muli v9 c8_i32_45
  let v66 : BitVec 32 := Scalar.addi c0_i32_46 v65
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_47 : BitVec 32 := 4#32
  let v67 : BitVec 32 := Scalar.muli v5 c4_i32_47
  let v68 : BitVec 32 := Scalar.addi v66 v67
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_48 : BitVec 32 := 1#32
  let v69 : BitVec 32 := Scalar.muli v8 c1_i32_48
  let v70 : BitVec 32 := Scalar.addi v68 v69
  v70.toNat
def k0_dev3 (d0 : Dev nD) : Nat :=
  let c0_i32_56 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_55 : BitVec 32 := 8#32
  let v79 : BitVec 32 := Scalar.muli v9 c8_i32_55
  let v80 : BitVec 32 := Scalar.addi c0_i32_56 v79
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_57 : BitVec 32 := 4#32
  let v81 : BitVec 32 := Scalar.muli v5 c4_i32_57
  let v82 : BitVec 32 := Scalar.addi v80 v81
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v83 : BitVec 32 := Scalar.muli v8 c1_i32_58
  let v84 : BitVec 32 := Scalar.addi v82 v83
  v84.toNat
def k0_dev4 (d0 : Dev nD) : Nat :=
  let c0_i32_66 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_65 : BitVec 32 := 8#32
  let v91 : BitVec 32 := Scalar.muli v9 c8_i32_65
  let v92 : BitVec 32 := Scalar.addi c0_i32_66 v91
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_67 : BitVec 32 := 4#32
  let v93 : BitVec 32 := Scalar.muli v5 c4_i32_67
  let v94 : BitVec 32 := Scalar.addi v92 v93
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_68 : BitVec 32 := 1#32
  let v95 : BitVec 32 := Scalar.muli v8 c1_i32_68
  let v96 : BitVec 32 := Scalar.addi v94 v95
  v96.toNat
def k0_dev5 (d0 : Dev nD) : Nat :=
  let c0_i32_75 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_74 : BitVec 32 := 8#32
  let v103 : BitVec 32 := Scalar.muli v9 c8_i32_74
  let v104 : BitVec 32 := Scalar.addi c0_i32_75 v103
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_76 : BitVec 32 := 4#32
  let v105 : BitVec 32 := Scalar.muli v5 c4_i32_76
  let v106 : BitVec 32 := Scalar.addi v104 v105
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_77 : BitVec 32 := 1#32
  let v107 : BitVec 32 := Scalar.muli v8 c1_i32_77
  let v108 : BitVec 32 := Scalar.addi v106 v107
  v108.toNat
def k0_dev6 (d0 : Dev nD) : Nat :=
  let c0_i32_83 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_82 : BitVec 32 := 8#32
  let v115 : BitVec 32 := Scalar.muli v9 c8_i32_82
  let v116 : BitVec 32 := Scalar.addi c0_i32_83 v115
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_84 : BitVec 32 := 4#32
  let v117 : BitVec 32 := Scalar.muli v5 c4_i32_84
  let v118 : BitVec 32 := Scalar.addi v116 v117
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_85 : BitVec 32 := 1#32
  let v119 : BitVec 32 := Scalar.muli v8 c1_i32_85
  let v120 : BitVec 32 := Scalar.addi v118 v119
  v120.toNat
def k0_dev7 (d0 : Dev nD) : Nat :=
  let c0_i32_92 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_91 : BitVec 32 := 8#32
  let v127 : BitVec 32 := Scalar.muli v9 c8_i32_91
  let v128 : BitVec 32 := Scalar.addi c0_i32_92 v127
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_93 : BitVec 32 := 4#32
  let v129 : BitVec 32 := Scalar.muli v5 c4_i32_93
  let v130 : BitVec 32 := Scalar.addi v128 v129
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_94 : BitVec 32 := 1#32
  let v131 : BitVec 32 := Scalar.muli v8 c1_i32_94
  let v132 : BitVec 32 := Scalar.addi v130 v131
  v132.toNat
def k0_dev8 (d0 : Dev nD) : Nat :=
  let c0_i32_100 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_99 : BitVec 32 := 8#32
  let v139 : BitVec 32 := Scalar.muli v9 c8_i32_99
  let v140 : BitVec 32 := Scalar.addi c0_i32_100 v139
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_101 : BitVec 32 := 4#32
  let v141 : BitVec 32 := Scalar.muli v5 c4_i32_101
  let v142 : BitVec 32 := Scalar.addi v140 v141
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_102 : BitVec 32 := 1#32
  let v143 : BitVec 32 := Scalar.muli v8 c1_i32_102
  let v144 : BitVec 32 := Scalar.addi v142 v143
  v144.toNat
def k0_dev9 (d0 : Dev nD) : Nat :=
  let c0_i32_108 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_107 : BitVec 32 := 8#32
  let v151 : BitVec 32 := Scalar.muli v9 c8_i32_107
  let v152 : BitVec 32 := Scalar.addi c0_i32_108 v151
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_109 : BitVec 32 := 4#32
  let v153 : BitVec 32 := Scalar.muli v5 c4_i32_109
  let v154 : BitVec 32 := Scalar.addi v152 v153
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_110 : BitVec 32 := 1#32
  let v155 : BitVec 32 := Scalar.muli v8 c1_i32_110
  let v156 : BitVec 32 := Scalar.addi v154 v155
  v156.toNat
def k0_dev10 (d0 : Dev nD) : Nat :=
  let c0_i32_116 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_115 : BitVec 32 := 8#32
  let v163 : BitVec 32 := Scalar.muli v9 c8_i32_115
  let v164 : BitVec 32 := Scalar.addi c0_i32_116 v163
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_117 : BitVec 32 := 4#32
  let v165 : BitVec 32 := Scalar.muli v5 c4_i32_117
  let v166 : BitVec 32 := Scalar.addi v164 v165
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_118 : BitVec 32 := 1#32
  let v167 : BitVec 32 := Scalar.muli v8 c1_i32_118
  let v168 : BitVec 32 := Scalar.addi v166 v167
  v168.toNat
def k0_dev11 (d0 : Dev nD) : Nat :=
  let c0_i32_174 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_173 : BitVec 32 := 8#32
  let v249 : BitVec 32 := Scalar.muli v9 c8_i32_173
  let v250 : BitVec 32 := Scalar.addi c0_i32_174 v249
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_175 : BitVec 32 := 4#32
  let v251 : BitVec 32 := Scalar.muli v5 c4_i32_175
  let v252 : BitVec 32 := Scalar.addi v250 v251
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_176 : BitVec 32 := 1#32
  let v253 : BitVec 32 := Scalar.muli v8 c1_i32_176
  let v254 : BitVec 32 := Scalar.addi v252 v253
  v254.toNat
def k0_dev12 (d0 : Dev nD) : Nat :=
  let c0_i32_184 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_183 : BitVec 32 := 8#32
  let v263 : BitVec 32 := Scalar.muli v9 c8_i32_183
  let v264 : BitVec 32 := Scalar.addi c0_i32_184 v263
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_185 : BitVec 32 := 4#32
  let v265 : BitVec 32 := Scalar.muli v5 c4_i32_185
  let v266 : BitVec 32 := Scalar.addi v264 v265
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_186 : BitVec 32 := 1#32
  let v267 : BitVec 32 := Scalar.muli v8 c1_i32_186
  let v268 : BitVec 32 := Scalar.addi v266 v267
  v268.toNat
def k0_dev13 (d0 : Dev nD) : Nat :=
  let c0_i32_193 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_192 : BitVec 32 := 8#32
  let v275 : BitVec 32 := Scalar.muli v9 c8_i32_192
  let v276 : BitVec 32 := Scalar.addi c0_i32_193 v275
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_194 : BitVec 32 := 4#32
  let v277 : BitVec 32 := Scalar.muli v5 c4_i32_194
  let v278 : BitVec 32 := Scalar.addi v276 v277
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_195 : BitVec 32 := 1#32
  let v279 : BitVec 32 := Scalar.muli v8 c1_i32_195
  let v280 : BitVec 32 := Scalar.addi v278 v279
  v280.toNat
def k0_dev14 (d0 : Dev nD) : Nat :=
  let c0_i32_202 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_201 : BitVec 32 := 8#32
  let v287 : BitVec 32 := Scalar.muli v9 c8_i32_201
  let v288 : BitVec 32 := Scalar.addi c0_i32_202 v287
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_203 : BitVec 32 := 4#32
  let v289 : BitVec 32 := Scalar.muli v5 c4_i32_203
  let v290 : BitVec 32 := Scalar.addi v288 v289
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_204 : BitVec 32 := 1#32
  let v291 : BitVec 32 := Scalar.muli v8 c1_i32_204
  let v292 : BitVec 32 := Scalar.addi v290 v291
  v292.toNat
def k0_dev15 (d0 : Dev nD) : Nat :=
  let c0_i32_211 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_210 : BitVec 32 := 8#32
  let v299 : BitVec 32 := Scalar.muli v9 c8_i32_210
  let v300 : BitVec 32 := Scalar.addi c0_i32_211 v299
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_212 : BitVec 32 := 4#32
  let v301 : BitVec 32 := Scalar.muli v5 c4_i32_212
  let v302 : BitVec 32 := Scalar.addi v300 v301
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_213 : BitVec 32 := 1#32
  let v303 : BitVec 32 := Scalar.muli v8 c1_i32_213
  let v304 : BitVec 32 := Scalar.addi v302 v303
  v304.toNat
def k0_dev16 (d0 : Dev nD) : Nat :=
  let c0_i32_220 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_219 : BitVec 32 := 8#32
  let v311 : BitVec 32 := Scalar.muli v9 c8_i32_219
  let v312 : BitVec 32 := Scalar.addi c0_i32_220 v311
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_221 : BitVec 32 := 4#32
  let v313 : BitVec 32 := Scalar.muli v5 c4_i32_221
  let v314 : BitVec 32 := Scalar.addi v312 v313
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_222 : BitVec 32 := 1#32
  let v315 : BitVec 32 := Scalar.muli v8 c1_i32_222
  let v316 : BitVec 32 := Scalar.addi v314 v315
  v316.toNat
def k0_dev17 (d0 : Dev nD) : Nat :=
  let c0_i32_229 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_228 : BitVec 32 := 8#32
  let v323 : BitVec 32 := Scalar.muli v9 c8_i32_228
  let v324 : BitVec 32 := Scalar.addi c0_i32_229 v323
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_230 : BitVec 32 := 4#32
  let v325 : BitVec 32 := Scalar.muli v5 c4_i32_230
  let v326 : BitVec 32 := Scalar.addi v324 v325
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_231 : BitVec 32 := 1#32
  let v327 : BitVec 32 := Scalar.muli v8 c1_i32_231
  let v328 : BitVec 32 := Scalar.addi v326 v327
  v328.toNat
def k0_dev18 (d0 : Dev nD) : Nat :=
  let c0_i32_238 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_237 : BitVec 32 := 8#32
  let v335 : BitVec 32 := Scalar.muli v9 c8_i32_237
  let v336 : BitVec 32 := Scalar.addi c0_i32_238 v335
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_239 : BitVec 32 := 4#32
  let v337 : BitVec 32 := Scalar.muli v5 c4_i32_239
  let v338 : BitVec 32 := Scalar.addi v336 v337
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_240 : BitVec 32 := 1#32
  let v339 : BitVec 32 := Scalar.muli v8 c1_i32_240
  let v340 : BitVec 32 := Scalar.addi v338 v339
  v340.toNat
def k0_dev19 (d0 : Dev nD) : Nat :=
  let c0_i32_247 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_246 : BitVec 32 := 8#32
  let v347 : BitVec 32 := Scalar.muli v9 c8_i32_246
  let v348 : BitVec 32 := Scalar.addi c0_i32_247 v347
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_248 : BitVec 32 := 4#32
  let v349 : BitVec 32 := Scalar.muli v5 c4_i32_248
  let v350 : BitVec 32 := Scalar.addi v348 v349
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_249 : BitVec 32 := 1#32
  let v351 : BitVec 32 := Scalar.muli v8 c1_i32_249
  let v352 : BitVec 32 := Scalar.addi v350 v351
  v352.toNat
def k0_dev20 (d0 : Dev nD) : Nat :=
  let c0_i32_353 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_352 : BitVec 32 := 8#32
  let v507 : BitVec 32 := Scalar.muli v9 c8_i32_352
  let v508 : BitVec 32 := Scalar.addi c0_i32_353 v507
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_354 : BitVec 32 := 4#32
  let v509 : BitVec 32 := Scalar.muli v5 c4_i32_354
  let v510 : BitVec 32 := Scalar.addi v508 v509
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_355 : BitVec 32 := 1#32
  let v511 : BitVec 32 := Scalar.muli v8 c1_i32_355
  let v512 : BitVec 32 := Scalar.addi v510 v511
  v512.toNat
def k0_dev21 (d0 : Dev nD) : Nat :=
  let c0_i32_362 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_361 : BitVec 32 := 8#32
  let v521 : BitVec 32 := Scalar.muli v9 c8_i32_361
  let v522 : BitVec 32 := Scalar.addi c0_i32_362 v521
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_363 : BitVec 32 := 4#32
  let v523 : BitVec 32 := Scalar.muli v5 c4_i32_363
  let v524 : BitVec 32 := Scalar.addi v522 v523
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_364 : BitVec 32 := 1#32
  let v525 : BitVec 32 := Scalar.muli v8 c1_i32_364
  let v526 : BitVec 32 := Scalar.addi v524 v525
  v526.toNat
def k0_dev22 (d0 : Dev nD) : Nat :=
  let c0_i32_371 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_370 : BitVec 32 := 8#32
  let v533 : BitVec 32 := Scalar.muli v9 c8_i32_370
  let v534 : BitVec 32 := Scalar.addi c0_i32_371 v533
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_372 : BitVec 32 := 4#32
  let v535 : BitVec 32 := Scalar.muli v5 c4_i32_372
  let v536 : BitVec 32 := Scalar.addi v534 v535
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_373 : BitVec 32 := 1#32
  let v537 : BitVec 32 := Scalar.muli v8 c1_i32_373
  let v538 : BitVec 32 := Scalar.addi v536 v537
  v538.toNat
def k0_dev23 (d0 : Dev nD) : Nat :=
  let c0_i32_380 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_379 : BitVec 32 := 8#32
  let v545 : BitVec 32 := Scalar.muli v9 c8_i32_379
  let v546 : BitVec 32 := Scalar.addi c0_i32_380 v545
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_381 : BitVec 32 := 4#32
  let v547 : BitVec 32 := Scalar.muli v5 c4_i32_381
  let v548 : BitVec 32 := Scalar.addi v546 v547
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_382 : BitVec 32 := 1#32
  let v549 : BitVec 32 := Scalar.muli v8 c1_i32_382
  let v550 : BitVec 32 := Scalar.addi v548 v549
  v550.toNat
def k0_dev24 (d0 : Dev nD) : Nat :=
  let c0_i32_389 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_388 : BitVec 32 := 8#32
  let v557 : BitVec 32 := Scalar.muli v9 c8_i32_388
  let v558 : BitVec 32 := Scalar.addi c0_i32_389 v557
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_390 : BitVec 32 := 4#32
  let v559 : BitVec 32 := Scalar.muli v5 c4_i32_390
  let v560 : BitVec 32 := Scalar.addi v558 v559
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_391 : BitVec 32 := 1#32
  let v561 : BitVec 32 := Scalar.muli v8 c1_i32_391
  let v562 : BitVec 32 := Scalar.addi v560 v561
  v562.toNat
def k0_dev25 (d0 : Dev nD) : Nat :=
  let c0_i32_398 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_397 : BitVec 32 := 8#32
  let v569 : BitVec 32 := Scalar.muli v9 c8_i32_397
  let v570 : BitVec 32 := Scalar.addi c0_i32_398 v569
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_399 : BitVec 32 := 4#32
  let v571 : BitVec 32 := Scalar.muli v5 c4_i32_399
  let v572 : BitVec 32 := Scalar.addi v570 v571
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_400 : BitVec 32 := 1#32
  let v573 : BitVec 32 := Scalar.muli v8 c1_i32_400
  let v574 : BitVec 32 := Scalar.addi v572 v573
  v574.toNat
def k0_dev26 (d0 : Dev nD) : Nat :=
  let c0_i32_407 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_406 : BitVec 32 := 8#32
  let v581 : BitVec 32 := Scalar.muli v9 c8_i32_406
  let v582 : BitVec 32 := Scalar.addi c0_i32_407 v581
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_408 : BitVec 32 := 4#32
  let v583 : BitVec 32 := Scalar.muli v5 c4_i32_408
  let v584 : BitVec 32 := Scalar.addi v582 v583
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_409 : BitVec 32 := 1#32
  let v585 : BitVec 32 := Scalar.muli v8 c1_i32_409
  let v586 : BitVec 32 := Scalar.addi v584 v585
  v586.toNat
def k0_dev27 (d0 : Dev nD) : Nat :=
  let c0_i32_416 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_415 : BitVec 32 := 8#32
  let v593 : BitVec 32 := Scalar.muli v9 c8_i32_415
  let v594 : BitVec 32 := Scalar.addi c0_i32_416 v593
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_417 : BitVec 32 := 4#32
  let v595 : BitVec 32 := Scalar.muli v5 c4_i32_417
  let v596 : BitVec 32 := Scalar.addi v594 v595
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_418 : BitVec 32 := 1#32
  let v597 : BitVec 32 := Scalar.muli v8 c1_i32_418
  let v598 : BitVec 32 := Scalar.addi v596 v597
  v598.toNat
def k0_dev28 (d0 : Dev nD) : Nat :=
  let c0_i32_425 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_424 : BitVec 32 := 8#32
  let v605 : BitVec 32 := Scalar.muli v9 c8_i32_424
  let v606 : BitVec 32 := Scalar.addi c0_i32_425 v605
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_426 : BitVec 32 := 4#32
  let v607 : BitVec 32 := Scalar.muli v5 c4_i32_426
  let v608 : BitVec 32 := Scalar.addi v606 v607
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_427 : BitVec 32 := 1#32
  let v609 : BitVec 32 := Scalar.muli v8 c1_i32_427
  let v610 : BitVec 32 := Scalar.addi v608 v609
  v610.toNat
def k0_dev29 (d0 : Dev nD) : Nat :=
  let c0_i32_643 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_642 : BitVec 32 := 8#32
  let v945 : BitVec 32 := Scalar.muli v9 c8_i32_642
  let v946 : BitVec 32 := Scalar.addi c0_i32_643 v945
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_644 : BitVec 32 := 4#32
  let v947 : BitVec 32 := Scalar.muli v5 c4_i32_644
  let v948 : BitVec 32 := Scalar.addi v946 v947
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_645 : BitVec 32 := 1#32
  let v949 : BitVec 32 := Scalar.muli v8 c1_i32_645
  let v950 : BitVec 32 := Scalar.addi v948 v949
  v950.toNat
def k0_dev30 (d0 : Dev nD) : Nat :=
  let c0_i32_652 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_651 : BitVec 32 := 8#32
  let v959 : BitVec 32 := Scalar.muli v9 c8_i32_651
  let v960 : BitVec 32 := Scalar.addi c0_i32_652 v959
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_653 : BitVec 32 := 4#32
  let v961 : BitVec 32 := Scalar.muli v5 c4_i32_653
  let v962 : BitVec 32 := Scalar.addi v960 v961
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_654 : BitVec 32 := 1#32
  let v963 : BitVec 32 := Scalar.muli v8 c1_i32_654
  let v964 : BitVec 32 := Scalar.addi v962 v963
  v964.toNat
def k0_dev31 (d0 : Dev nD) : Nat :=
  let c0_i32_661 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_660 : BitVec 32 := 8#32
  let v971 : BitVec 32 := Scalar.muli v9 c8_i32_660
  let v972 : BitVec 32 := Scalar.addi c0_i32_661 v971
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_662 : BitVec 32 := 4#32
  let v973 : BitVec 32 := Scalar.muli v5 c4_i32_662
  let v974 : BitVec 32 := Scalar.addi v972 v973
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_663 : BitVec 32 := 1#32
  let v975 : BitVec 32 := Scalar.muli v8 c1_i32_663
  let v976 : BitVec 32 := Scalar.addi v974 v975
  v976.toNat
def k0_dev32 (d0 : Dev nD) : Nat :=
  let c0_i32_670 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_669 : BitVec 32 := 8#32
  let v983 : BitVec 32 := Scalar.muli v9 c8_i32_669
  let v984 : BitVec 32 := Scalar.addi c0_i32_670 v983
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_671 : BitVec 32 := 4#32
  let v985 : BitVec 32 := Scalar.muli v5 c4_i32_671
  let v986 : BitVec 32 := Scalar.addi v984 v985
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_672 : BitVec 32 := 1#32
  let v987 : BitVec 32 := Scalar.muli v8 c1_i32_672
  let v988 : BitVec 32 := Scalar.addi v986 v987
  v988.toNat
def k0_dev33 (d0 : Dev nD) : Nat :=
  let c0_i32_679 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_678 : BitVec 32 := 8#32
  let v995 : BitVec 32 := Scalar.muli v9 c8_i32_678
  let v996 : BitVec 32 := Scalar.addi c0_i32_679 v995
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_680 : BitVec 32 := 4#32
  let v997 : BitVec 32 := Scalar.muli v5 c4_i32_680
  let v998 : BitVec 32 := Scalar.addi v996 v997
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_681 : BitVec 32 := 1#32
  let v999 : BitVec 32 := Scalar.muli v8 c1_i32_681
  let v1000 : BitVec 32 := Scalar.addi v998 v999
  v1000.toNat
def k0_dev34 (d0 : Dev nD) : Nat :=
  let c0_i32_688 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_687 : BitVec 32 := 8#32
  let v1007 : BitVec 32 := Scalar.muli v9 c8_i32_687
  let v1008 : BitVec 32 := Scalar.addi c0_i32_688 v1007
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_689 : BitVec 32 := 4#32
  let v1009 : BitVec 32 := Scalar.muli v5 c4_i32_689
  let v1010 : BitVec 32 := Scalar.addi v1008 v1009
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_690 : BitVec 32 := 1#32
  let v1011 : BitVec 32 := Scalar.muli v8 c1_i32_690
  let v1012 : BitVec 32 := Scalar.addi v1010 v1011
  v1012.toNat
def k0_dev35 (d0 : Dev nD) : Nat :=
  let c0_i32_697 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_696 : BitVec 32 := 8#32
  let v1019 : BitVec 32 := Scalar.muli v9 c8_i32_696
  let v1020 : BitVec 32 := Scalar.addi c0_i32_697 v1019
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_698 : BitVec 32 := 4#32
  let v1021 : BitVec 32 := Scalar.muli v5 c4_i32_698
  let v1022 : BitVec 32 := Scalar.addi v1020 v1021
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_699 : BitVec 32 := 1#32
  let v1023 : BitVec 32 := Scalar.muli v8 c1_i32_699
  let v1024 : BitVec 32 := Scalar.addi v1022 v1023
  v1024.toNat
def k0_dev36 (d0 : Dev nD) : Nat :=
  let c0_i32_706 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_705 : BitVec 32 := 8#32
  let v1031 : BitVec 32 := Scalar.muli v9 c8_i32_705
  let v1032 : BitVec 32 := Scalar.addi c0_i32_706 v1031
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_707 : BitVec 32 := 4#32
  let v1033 : BitVec 32 := Scalar.muli v5 c4_i32_707
  let v1034 : BitVec 32 := Scalar.addi v1032 v1033
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_708 : BitVec 32 := 1#32
  let v1035 : BitVec 32 := Scalar.muli v8 c1_i32_708
  let v1036 : BitVec 32 := Scalar.addi v1034 v1035
  v1036.toNat
def k0_dev37 (d0 : Dev nD) : Nat :=
  let c0_i32_715 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_714 : BitVec 32 := 8#32
  let v1043 : BitVec 32 := Scalar.muli v9 c8_i32_714
  let v1044 : BitVec 32 := Scalar.addi c0_i32_715 v1043
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_716 : BitVec 32 := 4#32
  let v1045 : BitVec 32 := Scalar.muli v5 c4_i32_716
  let v1046 : BitVec 32 := Scalar.addi v1044 v1045
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_717 : BitVec 32 := 1#32
  let v1047 : BitVec 32 := Scalar.muli v8 c1_i32_717
  let v1048 : BitVec 32 := Scalar.addi v1046 v1047
  v1048.toNat
def k0_off2 (d0 : Dev nD) : Fin 2 → Nat :=
  let c0_810 : Index := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v22 : BitVec 32 := Scalar.muli v2 c8192_i32
  let v1143 : Index := Scalar.indexCast v22
  ![0, v1143.toNat]
def k0_off3 (d0 : Dev nD) : Fin 2 → Nat :=
  let c0_896 : Index := 0#32
  let c1_i32_14 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_14 v2
  let c8192_i32_15 : BitVec 32 := 8192#32
  let v24 : BitVec 32 := Scalar.muli v23 c8192_i32_15
  let v1282 : Index := Scalar.indexCast v24
  ![0, v1282.toNat]
def k0_off4 (d0 : Dev nD) : Fin 2 → Nat :=
  let c32 : Index := 32#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v22 : BitVec 32 := Scalar.muli v2 c8192_i32
  let v1286 : Index := Scalar.indexCast v22
  ![32, v1286.toNat]
def k0_off5 (d0 : Dev nD) : Fin 2 → Nat :=
  let c32_982 : Index := 32#32
  let c1_i32_14 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_14 v2
  let c8192_i32_15 : BitVec 32 := 8192#32
  let v24 : BitVec 32 := Scalar.muli v23 c8192_i32_15
  let v1425 : Index := Scalar.indexCast v24
  ![32, v1425.toNat]
def k0_off6 (d0 : Dev nD) : Fin 2 → Nat :=
  let c64 : Index := 64#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v22 : BitVec 32 := Scalar.muli v2 c8192_i32
  let v1473 : Index := Scalar.indexCast v22
  ![64, v1473.toNat]
def k0_off7 (d0 : Dev nD) : Fin 2 → Nat :=
  let c64_1113 : Index := 64#32
  let c1_i32_14 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_14 v2
  let c8192_i32_15 : BitVec 32 := 8192#32
  let v24 : BitVec 32 := Scalar.muli v23 c8192_i32_15
  let v1612 : Index := Scalar.indexCast v24
  ![64, v1612.toNat]
def k0_off8 (d0 : Dev nD) : Fin 2 → Nat :=
  let c96 : Index := 96#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v22 : BitVec 32 := Scalar.muli v2 c8192_i32
  let v1616 : Index := Scalar.indexCast v22
  ![96, v1616.toNat]
def k0_off9 (d0 : Dev nD) : Fin 2 → Nat :=
  let c96_1199 : Index := 96#32
  let c1_i32_14 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_14 v2
  let c8192_i32_15 : BitVec 32 := 8192#32
  let v24 : BitVec 32 := Scalar.muli v23 c8192_i32_15
  let v1755 : Index := Scalar.indexCast v24
  ![96, v1755.toNat]
def k0_off10 (d0 : Dev nD) : Fin 2 → Nat :=
  let c128 : Index := 128#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v22 : BitVec 32 := Scalar.muli v2 c8192_i32
  let v1803 : Index := Scalar.indexCast v22
  ![128, v1803.toNat]
def k0_off11 (d0 : Dev nD) : Fin 2 → Nat :=
  let c128_1330 : Index := 128#32
  let c1_i32_14 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_14 v2
  let c8192_i32_15 : BitVec 32 := 8192#32
  let v24 : BitVec 32 := Scalar.muli v23 c8192_i32_15
  let v1942 : Index := Scalar.indexCast v24
  ![128, v1942.toNat]
def k0_off12 (d0 : Dev nD) : Fin 2 → Nat :=
  let c160 : Index := 160#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v22 : BitVec 32 := Scalar.muli v2 c8192_i32
  let v1946 : Index := Scalar.indexCast v22
  ![160, v1946.toNat]
def k0_off13 (d0 : Dev nD) : Fin 2 → Nat :=
  let c160_1416 : Index := 160#32
  let c1_i32_14 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_14 v2
  let c8192_i32_15 : BitVec 32 := 8192#32
  let v24 : BitVec 32 := Scalar.muli v23 c8192_i32_15
  let v2085 : Index := Scalar.indexCast v24
  ![160, v2085.toNat]
def k0_off14 (d0 : Dev nD) : Fin 2 → Nat :=
  let c192 : Index := 192#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v22 : BitVec 32 := Scalar.muli v2 c8192_i32
  let v2133 : Index := Scalar.indexCast v22
  ![192, v2133.toNat]
def k0_off15 (d0 : Dev nD) : Fin 2 → Nat :=
  let c192_1547 : Index := 192#32
  let c1_i32_14 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_14 v2
  let c8192_i32_15 : BitVec 32 := 8192#32
  let v24 : BitVec 32 := Scalar.muli v23 c8192_i32_15
  let v2272 : Index := Scalar.indexCast v24
  ![192, v2272.toNat]
def k0_off16 (d0 : Dev nD) : Fin 2 → Nat :=
  let c224 : Index := 224#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v22 : BitVec 32 := Scalar.muli v2 c8192_i32
  let v2276 : Index := Scalar.indexCast v22
  ![224, v2276.toNat]
def k0_off17 (d0 : Dev nD) : Fin 2 → Nat :=
  let c224_1633 : Index := 224#32
  let c1_i32_14 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_14 v2
  let c8192_i32_15 : BitVec 32 := 8192#32
  let v24 : BitVec 32 := Scalar.muli v23 c8192_i32_15
  let v2415 : Index := Scalar.indexCast v24
  ![224, v2415.toNat]
def k0_off18 (d0 : Dev nD) : Fin 2 → Nat :=
  let c256 : Index := 256#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v22 : BitVec 32 := Scalar.muli v2 c8192_i32
  let v2463 : Index := Scalar.indexCast v22
  ![256, v2463.toNat]
def k0_off19 (d0 : Dev nD) : Fin 2 → Nat :=
  let c256_1764 : Index := 256#32
  let c1_i32_14 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_14 v2
  let c8192_i32_15 : BitVec 32 := 8192#32
  let v24 : BitVec 32 := Scalar.muli v23 c8192_i32_15
  let v2602 : Index := Scalar.indexCast v24
  ![256, v2602.toNat]
def k0_off20 (d0 : Dev nD) : Fin 2 → Nat :=
  let c288 : Index := 288#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v22 : BitVec 32 := Scalar.muli v2 c8192_i32
  let v2606 : Index := Scalar.indexCast v22
  ![288, v2606.toNat]
def k0_off21 (d0 : Dev nD) : Fin 2 → Nat :=
  let c288_1850 : Index := 288#32
  let c1_i32_14 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_14 v2
  let c8192_i32_15 : BitVec 32 := 8192#32
  let v24 : BitVec 32 := Scalar.muli v23 c8192_i32_15
  let v2745 : Index := Scalar.indexCast v24
  ![288, v2745.toNat]
def k0_off22 (d0 : Dev nD) : Fin 2 → Nat :=
  let c320 : Index := 320#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v22 : BitVec 32 := Scalar.muli v2 c8192_i32
  let v2793 : Index := Scalar.indexCast v22
  ![320, v2793.toNat]
def k0_off23 (d0 : Dev nD) : Fin 2 → Nat :=
  let c320_1981 : Index := 320#32
  let c1_i32_14 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_14 v2
  let c8192_i32_15 : BitVec 32 := 8192#32
  let v24 : BitVec 32 := Scalar.muli v23 c8192_i32_15
  let v2932 : Index := Scalar.indexCast v24
  ![320, v2932.toNat]
def k0_off24 (d0 : Dev nD) : Fin 2 → Nat :=
  let c352 : Index := 352#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v22 : BitVec 32 := Scalar.muli v2 c8192_i32
  let v2936 : Index := Scalar.indexCast v22
  ![352, v2936.toNat]
def k0_off25 (d0 : Dev nD) : Fin 2 → Nat :=
  let c352_2067 : Index := 352#32
  let c1_i32_14 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_14 v2
  let c8192_i32_15 : BitVec 32 := 8192#32
  let v24 : BitVec 32 := Scalar.muli v23 c8192_i32_15
  let v3075 : Index := Scalar.indexCast v24
  ![352, v3075.toNat]
def k0_off26 (d0 : Dev nD) : Fin 2 → Nat :=
  let c384 : Index := 384#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v22 : BitVec 32 := Scalar.muli v2 c8192_i32
  let v3123 : Index := Scalar.indexCast v22
  ![384, v3123.toNat]
def k0_off27 (d0 : Dev nD) : Fin 2 → Nat :=
  let c384_2198 : Index := 384#32
  let c1_i32_14 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_14 v2
  let c8192_i32_15 : BitVec 32 := 8192#32
  let v24 : BitVec 32 := Scalar.muli v23 c8192_i32_15
  let v3262 : Index := Scalar.indexCast v24
  ![384, v3262.toNat]
def k0_off28 (d0 : Dev nD) : Fin 2 → Nat :=
  let c416 : Index := 416#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v22 : BitVec 32 := Scalar.muli v2 c8192_i32
  let v3266 : Index := Scalar.indexCast v22
  ![416, v3266.toNat]
def k0_off29 (d0 : Dev nD) : Fin 2 → Nat :=
  let c416_2284 : Index := 416#32
  let c1_i32_14 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_14 v2
  let c8192_i32_15 : BitVec 32 := 8192#32
  let v24 : BitVec 32 := Scalar.muli v23 c8192_i32_15
  let v3405 : Index := Scalar.indexCast v24
  ![416, v3405.toNat]
def k0_off30 (d0 : Dev nD) : Fin 2 → Nat :=
  let c448 : Index := 448#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v22 : BitVec 32 := Scalar.muli v2 c8192_i32
  let v3453 : Index := Scalar.indexCast v22
  ![448, v3453.toNat]
def k0_off31 (d0 : Dev nD) : Fin 2 → Nat :=
  let c448_2415 : Index := 448#32
  let c1_i32_14 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_14 v2
  let c8192_i32_15 : BitVec 32 := 8192#32
  let v24 : BitVec 32 := Scalar.muli v23 c8192_i32_15
  let v3592 : Index := Scalar.indexCast v24
  ![448, v3592.toNat]
def k0_off32 (d0 : Dev nD) : Fin 2 → Nat :=
  let c480 : Index := 480#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8192_i32 : BitVec 32 := 8192#32
  let v22 : BitVec 32 := Scalar.muli v2 c8192_i32
  let v3596 : Index := Scalar.indexCast v22
  ![480, v3596.toNat]
def k0_off33 (d0 : Dev nD) : Fin 2 → Nat :=
  let c480_2501 : Index := 480#32
  let c1_i32_14 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v23 : BitVec 32 := Scalar.subi c1_i32_14 v2
  let c8192_i32_15 : BitVec 32 := 8192#32
  let v24 : BitVec 32 := Scalar.muli v23 c8192_i32_15
  let v3735 : Index := Scalar.indexCast v24
  ![480, v3735.toNat]
abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S512x1024 : Shape := ⟨2, ![512, 1024]⟩
abbrev S1024x16384 : Shape := ⟨2, ![1024, 16384]⟩
abbrev S512x16384 : Shape := ⟨2, ![512, 16384]⟩
abbrev S512x32x512 : Shape := ⟨3, ![512, 32, 512]⟩
abbrev S_ : Shape := ⟨0, ![]⟩
abbrev S512x32 : Shape := ⟨2, ![512, 32]⟩
abbrev S512x32x1 : Shape := ⟨3, ![512, 32, 1]⟩
abbrev S512x8192 : Shape := ⟨2, ![512, 8192]⟩
abbrev S512 : Shape := ⟨1, ![512]⟩
abbrev S512x1 : Shape := ⟨2, ![512, 1]⟩

abbrev nBuf : Space → Nat
  | .hbm => 59
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S1024x16384, .f32⟩
  | .hbm, ⟨2, _⟩ => ⟨S512x16384, .f32⟩
  | .hbm, ⟨3, _⟩ => ⟨S512x32x512, .f32⟩
  | .hbm, ⟨4, _⟩ => ⟨S512x32x512, .f32⟩
  | .hbm, ⟨5, _⟩ => ⟨S_, .f32⟩
  | .hbm, ⟨6, _⟩ => ⟨S512x32, .f32⟩
  | .hbm, ⟨7, _⟩ => ⟨S512x32x1, .f32⟩
  | .hbm, ⟨8, _⟩ => ⟨S_, .f32⟩
  | .hbm, ⟨9, _⟩ => ⟨S512x32x1, .f32⟩
  | .hbm, ⟨10, _⟩ => ⟨S512x32x1, .f32⟩
  | .hbm, ⟨11, _⟩ => ⟨S_, .f32⟩
  | .hbm, ⟨12, _⟩ => ⟨S512x32x1, .f32⟩
  | .hbm, ⟨13, _⟩ => ⟨S512x32x1, .f32⟩
  | .hbm, ⟨14, _⟩ => ⟨S512x32x512, .f32⟩
  | .hbm, ⟨15, _⟩ => ⟨S512x32x512, .f32⟩
  | .hbm, ⟨16, _⟩ => ⟨S512x32x512, .f32⟩
  | .hbm, ⟨17, _⟩ => ⟨S_, .f32⟩
  | .hbm, ⟨18, _⟩ => ⟨S512x32x512, .f32⟩
  | .hbm, ⟨19, _⟩ => ⟨S512x32x512, .f32⟩
  | .hbm, ⟨20, _⟩ => ⟨S_, .f32⟩
  | .hbm, ⟨21, _⟩ => ⟨S512x32x512, .f32⟩
  | .hbm, ⟨22, _⟩ => ⟨S512x32x512, .f32⟩
  | .hbm, ⟨23, _⟩ => ⟨S512x32x512, .i32⟩
  | .hbm, ⟨24, _⟩ => ⟨S512x32x512, .i8⟩
  | .hbm, ⟨25, _⟩ => ⟨S512x32x512, .i32⟩
  | .hbm, ⟨26, _⟩ => ⟨S512x32x512, .f32⟩
  | .hbm, ⟨27, _⟩ => ⟨S512x32x512, .f32⟩
  | .hbm, ⟨28, _⟩ => ⟨S512x32x512, .f32⟩
  | .hbm, ⟨29, _⟩ => ⟨S512x16384, .f32⟩
  | .hbm, ⟨30, _⟩ => ⟨S512x8192, .f32⟩
  | .hbm, ⟨31, _⟩ => ⟨S512x8192, .f32⟩
  | .hbm, ⟨32, _⟩ => ⟨S512x16384, .f32⟩
  | .hbm, ⟨33, _⟩ => ⟨S512x8192, .f32⟩
  | .hbm, ⟨34, _⟩ => ⟨S512x8192, .f32⟩
  | .hbm, ⟨35, _⟩ => ⟨S512x16384, .f32⟩
  | .hbm, ⟨36, _⟩ => ⟨S_, .f32⟩
  | .hbm, ⟨37, _⟩ => ⟨S512, .f32⟩
  | .hbm, ⟨38, _⟩ => ⟨S512x1, .f32⟩
  | .hbm, ⟨39, _⟩ => ⟨S512x16384, .f32⟩
  | .hbm, ⟨40, _⟩ => ⟨S512x16384, .f32⟩
  | .hbm, ⟨41, _⟩ => ⟨S512x16384, .f32⟩
  | .hbm, ⟨42, _⟩ => ⟨S_, .f32⟩
  | .hbm, ⟨43, _⟩ => ⟨S512, .f32⟩
  | .hbm, ⟨44, _⟩ => ⟨S512x1, .f32⟩
  | .hbm, ⟨45, _⟩ => ⟨S512x16384, .f32⟩
  | .hbm, ⟨46, _⟩ => ⟨S512x16384, .f32⟩
  | .hbm, ⟨47, _⟩ => ⟨S_, .f32⟩
  | .hbm, ⟨48, _⟩ => ⟨S512, .f32⟩
  | .hbm, ⟨49, _⟩ => ⟨S512x1, .f32⟩
  | .hbm, ⟨50, _⟩ => ⟨S512x16384, .f32⟩
  | .hbm, ⟨51, _⟩ => ⟨S512x16384, .f32⟩
  | .hbm, ⟨52, _⟩ => ⟨S512x16384, .f32⟩
  | .hbm, ⟨53, _⟩ => ⟨S_, .f32⟩
  | .hbm, ⟨54, _⟩ => ⟨S512, .f32⟩
  | .hbm, ⟨55, _⟩ => ⟨S512x1, .f32⟩
  | .hbm, ⟨56, _⟩ => ⟨S512x16384, .f32⟩
  | .hbm, ⟨57, _⟩ => ⟨S512x16384, .f32⟩
  | .hbm, ⟨58, _⟩ => ⟨S1024x16384, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_cst_4 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_5 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_6 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_7 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩

abbrev nD : Nat := 1
abbrev τ : Topo := Topo.v7x

variable {F : FTy → Type} [FloatOps F]
-- ==== Proof.Ideal.Body.lean ====
/- The kernel's body as a structured program: sixteen column chunks, four group sends, sixteen row stripes,
   each piece written once for a symbolic index. The printed body is this program by unfolding. -/
module

public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.KernelIdeal.Exchange

open Idealize.ShloMosaic Idealize.ShloMosaic.TcCoe Idealize.SL.Sem Cert.KernelIdeal.Gen

variable {F : FTy → Type} [FloatOps F]

variable (F) in
/-- Programs of the body. -/
abbrev PR : Type _ := Prog (TpuEff nD τ sig (Elt F) Λ₀ .tc) PUnit

/-! ## The geometry: groups of columns -/

/-- First column of group `g`. -/
def gOff : Fin 4 → ℕ := ![0, 512, 1536, 3584]
/-- Number of columns of group `g`. -/
def gWid : Fin 4 → ℕ := ![512, 1024, 2048, 4608]
/-- The group of chunk `c`, and its place in the group. -/
def cGrp : Fin 16 → Fin 4 := ![0, 1, 1, 2, 2, 2, 2, 3, 3, 3, 3, 3, 3, 3, 3, 3]
def cLoc : Fin 16 → ℕ := ![0, 0, 1, 0, 1, 2, 3, 0, 1, 2, 3, 4, 5, 6, 7, 8]

/-- A row block of group `g`. -/
abbrev SG (g : Fin 4) : Shape := ⟨2, ![64, gWid g]⟩

theorem inbLoad (c : Fin 16) : ∀ a, (![0, 512 * c.val] : Fin 2 → ℕ) a + S1024x512.size a ≤ S1024x8192.size a := by
  revert c; decide
theorem inbSlot (c : Fin 16) : ∀ a, (![c.val % 2, 0, 0] : Fin 3 → ℕ) a + S1x1024x512.size a ≤ S2x1024x512.size a := by
  revert c; decide
theorem inbLSem (c : Fin 16) : ∀ a, (![c.val % 2] : Fin 1 → ℕ) a + S1.size a ≤ S2.size a := by revert c; decide
theorem inbSb (c : Fin 16) : ∀ a, (![0, 512 * c.val] : Fin 2 → ℕ) a + S512x512.size a ≤ S512x8192.size a := by
  revert c; decide
theorem inbSs (c : Fin 16) : ∀ a, (![(cGrp c).val, cLoc c, 0] : Fin 3 → ℕ) a + S1x1x512.size a ≤ S4x16x512.size a := by
  revert c; decide
theorem inbSSem (g : Fin 4) (r : Fin 8) : ∀ a, (![8 * g.val + r.val] : Fin 1 → ℕ) a + S1.size a ≤ S32.size a := by
  revert g r; decide
theorem inbGSem (g : Fin 4) : ∀ a, (![g.val] : Fin 1 → ℕ) a + S1.size a ≤ S4.size a := by revert g; decide
theorem inbGs (g : Fin 4) : ∀ a, (![g.val, 0, 0] : Fin 3 → ℕ) a + S1x16x512.size a ≤ S4x16x512.size a := by
  revert g; decide
theorem inbSend (g : Fin 4) (r : Fin 8) : ∀ a, (![64 * r.val, gOff g] : Fin 2 → ℕ) a + (SG g).size a ≤ S512x8192.size a := by
  revert g r; decide
theorem wordsSend (g : Fin 4) (r : Fin 8) :
    (Rect.unit (s := S512x8192) ![64 * r.val, gOff g] (SG g).size (inbSend g r)).WholeWords (EltTy.packing .i8) := by
  revert g r; decide
theorem packedSb (c : Fin 16) :
    (Rect.unit (s := S512x8192) ![0, 512 * c.val] S512x512.size (inbSb c)).PackedRows (EltTy.packing .i8) := by
  revert c; decide
theorem inbRb (s c : Fin 16) : ∀ a, (![32 * s.val, 512 * c.val] : Fin 2 → ℕ) a + S32x512.size a ≤ S512x8192.size a := by
  revert s c; decide
theorem inbRs (s c : Fin 16) : ∀ a, (![(cGrp c).val, cLoc c, 32 * s.val] : Fin 3 → ℕ) a + S1x1x32.size a ≤ S4x16x512.size a := by
  revert s c; decide
theorem inbOut (r : Fin 8) : ∀ a, (![64 * r.val, 0] : Fin 2 → ℕ) a + S64x16384.size a ≤ S512x16384.size a := by
  revert r; decide
theorem inbOSem (r : Fin 8) : ∀ a, (![r.val] : Fin 1 → ℕ) a + S1.size a ≤ S8.size a := by revert r; decide

/-- Where a stripe's own half and its peer's half lie in the output rows. -/
def offMy (d : Dev nD) : Fin 16 → Fin 2 → ℕ :=
  ![k0_off2 d, k0_off4 d, k0_off6 d, k0_off8 d, k0_off10 d, k0_off12 d, k0_off14 d, k0_off16 d,
    k0_off18 d, k0_off20 d, k0_off22 d, k0_off24 d, k0_off26 d, k0_off28 d, k0_off30 d, k0_off32 d]
def offNb (d : Dev nD) : Fin 16 → Fin 2 → ℕ :=
  ![k0_off3 d, k0_off5 d, k0_off7 d, k0_off9 d, k0_off11 d, k0_off13 d, k0_off15 d, k0_off17 d,
    k0_off19 d, k0_off21 d, k0_off23 d, k0_off25 d, k0_off27 d, k0_off29 d, k0_off31 d, k0_off33 d]

theorem offMy_eq : ∀ (d : Dev nD) (s : Fin 16), offMy d s = ![32 * s.val, 8192 * (d.val / 8)] := by decide +kernel
theorem offNb_eq : ∀ (d : Dev nD) (s : Fin 16), offNb d s = ![32 * s.val, 8192 - 8192 * (d.val / 8)] := by decide +kernel
theorem inbMy : ∀ (d : Dev nD) (s : Fin 16), ∀ a, (offMy d s) a + S32x8192.size a ≤ S512x16384.size a := by decide +kernel
theorem inbNb : ∀ (d : Dev nD) (s : Fin 16), ∀ a, (offNb d s) a + S32x8192.size a ≤ S512x16384.size a := by decide +kernel

/-! ## Buffers, rectangles and semaphores by name -/

abbrev mW := Memref.whole (sig := sig) (κ := .tc) main_arg1
abbrev mO := Memref.whole (sig := sig) (κ := .tc) main_v1
abbrev mOb := Memref.whole (sig := sig) (κ := .tc) cc0_scratch0
abbrev mWb := Memref.whole (sig := sig) (κ := .tc) cc0_scratch1
abbrev mSb := Memref.whole (sig := sig) (κ := .tc) cc0_scratch2
abbrev mRb := Memref.whole (sig := sig) (κ := .tc) cc0_scratch3
abbrev mSs := Memref.whole (sig := sig) (κ := .tc) cc0_scratch4
abbrev mRs := Memref.whole (sig := sig) (κ := .tc) cc0_scratch5

/-- Columns of chunk `c` of the device's half of the weights. -/
abbrev rLoad (c : Fin 16) : Rect S1024x8192 := Rect.unit (s := S1024x8192) ![0, 512 * c.val] S1024x512.size (inbLoad c)
abbrev rSlot (c : Fin 16) : Rect S2x1024x512 := Rect.unit (s := S2x1024x512) ![c.val % 2, 0, 0] S1x1024x512.size (inbSlot c)
abbrev rOb (d : Dev nD) (c : Fin 16) : Rect S512x16384 :=
  Rect.unit (s := S512x16384) (k0_off1 d (BitVec.ofNat 32 (512 * c.val))) S512x512.size (k0_off1_inb d c)
abbrev rSb (c : Fin 16) : Rect S512x8192 := Rect.unit (s := S512x8192) ![0, 512 * c.val] S512x512.size (inbSb c)
abbrev rSs (c : Fin 16) : Rect S4x16x512 := Rect.unit (s := S4x16x512) ![(cGrp c).val, cLoc c, 0] S1x1x512.size (inbSs c)
abbrev rGs (g : Fin 4) : Rect S4x16x512 := Rect.unit (s := S4x16x512) ![g.val, 0, 0] S1x16x512.size (inbGs g)
abbrev rSend (g : Fin 4) (r : Fin 8) : Rect S512x8192 := Rect.unit (s := S512x8192) ![64 * r.val, gOff g] (SG g).size (inbSend g r)
abbrev rMy (d : Dev nD) (s : Fin 16) : Rect S512x16384 := Rect.unit (s := S512x16384) (offMy d s) S32x8192.size (inbMy d s)
abbrev rNb (d : Dev nD) (s : Fin 16) : Rect S512x16384 := Rect.unit (s := S512x16384) (offNb d s) S32x8192.size (inbNb d s)
abbrev rRb (s c : Fin 16) : Rect S512x8192 := Rect.unit (s := S512x8192) ![32 * s.val, 512 * c.val] S32x512.size (inbRb s c)
abbrev rRs (s c : Fin 16) : Rect S4x16x512 := Rect.unit (s := S4x16x512) ![(cGrp c).val, cLoc c, 32 * s.val] S1x1x32.size (inbRs s c)
abbrev rOut (r : Fin 8) : Rect S512x16384 := Rect.unit (s := S512x16384) ![64 * r.val, 0] S64x16384.size (inbOut r)
abbrev rX : Rect S512x1024 := Rect.unit (s := S512x1024) ![0, 0] S512x1024.size inb_S512x1024_S512x1024_0_0

abbrev vLoad (c : Fin 16) : Memref sig .tc .hbm S1024x512 .f32 := mW.slice (rLoad c) (fun _ => rfl)
abbrev vSlot (c : Fin 16) : Memref sig .tc .vmem S1024x512 .f32 :=
  (mWb.slice (rSlot c) (fun _ => rfl)).squeeze S1024x512 squeezes_S1x1024x512_S1024x512
abbrev vSb (g : Fin 4) (r : Fin 8) : Memref sig .tc .vmem (SG g) .i8 := mSb.slice (rSend g r) (fun _ => rfl)
abbrev vRb (g : Fin 4) (r : Fin 8) : Memref sig .tc .vmem (SG g) .i8 := mRb.slice (rSend g r) (fun _ => rfl)
abbrev vSs (g : Fin 4) : Memref sig .tc .vmem S16x512 .f32 := (mSs.slice (rGs g) (fun _ => rfl)).squeeze S16x512 squeezes_S1x16x512_S16x512
abbrev vRs (g : Fin 4) : Memref sig .tc .vmem S16x512 .f32 := (mRs.slice (rGs g) (fun _ => rfl)).squeeze S16x512 squeezes_S1x16x512_S16x512
abbrev vOb (r : Fin 8) : Memref sig .tc .vmem S64x16384 .f32 := mOb.slice (rOut r) (fun _ => rfl)
abbrev vO (r : Fin 8) : Memref sig .tc .hbm S64x16384 .f32 := mO.slice (rOut r) (fun _ => rfl)

def semLoad (c : Fin 16) : DmaSem sig := ((cc0_scratch6.slice (Rect.unit (s := S2) ![c.val % 2] S1.size (inbLSem c))).squeeze S_ squeezes_S1_S_).sem
def semSend (g : Fin 4) (r : Fin 8) : DmaSem sig := ((cc0_scratch7.slice (Rect.unit (s := S32) ![8 * g.val + r.val] S1.size (inbSSem g r))).squeeze S_ squeezes_S1_S_).sem
def semRecv (g : Fin 4) (r : Fin 8) : DmaSem sig := ((cc0_scratch8.slice (Rect.unit (s := S32) ![8 * g.val + r.val] S1.size (inbSSem g r))).squeeze S_ squeezes_S1_S_).sem
def semSSend (g : Fin 4) : DmaSem sig := ((cc0_scratch9.slice (Rect.unit (s := S4) ![g.val] S1.size (inbGSem g))).squeeze S_ squeezes_S1_S_).sem
def semSRecv (g : Fin 4) : DmaSem sig := ((cc0_scratch10.slice (Rect.unit (s := S4) ![g.val] S1.size (inbGSem g))).squeeze S_ squeezes_S1_S_).sem
def semOut (r : Fin 8) : DmaSem sig := ((cc0_scratch11.slice (Rect.unit (s := S8) ![r.val] S1.size (inbOSem r))).squeeze S_ squeezes_S1_S_).sem
/-- The barrier semaphore. -/
abbrev barSem : Sem sig := (SemArray.scalar (sig.barrier 0 rfl) : Sems sig S_).sem

/-- The device's partner across the exchanged axis. -/
abbrev peer (d : Dev nD) : Dev nD := ⟨k0_dev1 d, k0_dev1_lt d⟩

/-! ## The values stored -/

/-- The logits of a chunk. -/
def logitsV (x : FVec F S512x1024 .bf16) (w : Vec F S1x1024x512 .f32) : FVec F S512x512 .f32 := k0_pay3 x w
/-- The quantised logits of a chunk. -/
def quantV (x : FVec F S512x1024 .bf16) (w : Vec F S1x1024x512 .f32) : IVec S512x512 8 := k0_pay5 x w
/-- The scales of a chunk. -/
def scaleV (x : FVec F S512x1024 .bf16) (w : Vec F S1x1024x512 .f32) : FVec F S1x1x512 .f32 := k0_pay7 (k0_pay6 x w)
/-- A piece of the peer's half rebuilt from its quantised logits and scales. -/
def deqV (q : Vec F S32x512 .i8) (s : Vec F S1x1x32 .f32) : FVec F S32x512 .f32 := k0_pay95 q s
/-- The peer's half of a stripe: its sixteen pieces side by side. -/
def nbV (p : Fin 16 → FVec F S32x512 .f32) : FVec F S32x8192 .f32 :=
  concatenate S32x8192 1 [⟨S32x512, p 0⟩, ⟨S32x512, p 1⟩, ⟨S32x512, p 2⟩, ⟨S32x512, p 3⟩, ⟨S32x512, p 4⟩, ⟨S32x512, p 5⟩,
    ⟨S32x512, p 6⟩, ⟨S32x512, p 7⟩, ⟨S32x512, p 8⟩, ⟨S32x512, p 9⟩, ⟨S32x512, p 10⟩, ⟨S32x512, p 11⟩, ⟨S32x512, p 12⟩,
    ⟨S32x512, p 13⟩, ⟨S32x512, p 14⟩, ⟨S32x512, p 15⟩]
    concatenates_S32x512_S32x512_S32x512_S32x512_S32x512_S32x512_S32x512_S32x512_S32x512_S32x512_S32x512_S32x512_S32x512_S32x512_S32x512_S32x512_S32x8192_d1
/-- The maximum of a stripe's rows over both halves. -/
def maxV (a b : FVec F S32x8192 .f32) : FVec F S32x1 .f32 :=
  maximumf (shapeCast S32x1 (multiReduction .maximumf [1] S32 a 0xFF800000#32 reduces_S32x8192_S32 (.inl rfl) rfl) shapeCasts_S32_S32x1)
    (shapeCast S32x1 (multiReduction .maximumf [1] S32 b 0xFF800000#32 reduces_S32x8192_S32 (.inl rfl) rfl) shapeCasts_S32_S32x1)
/-- The exponentials of a half at row maxima `m`. -/
def expV (a : FVec F S32x8192 .f32) (m : FVec F S32x1 .f32) : FVec F S32x8192 .f32 :=
  exp (subf a (broadcastTo S32x8192 m broadcasts_S32x1_S32x8192))
/-- The sum of a stripe's rows over both halves. -/
def sumV (a b : FVec F S32x8192 .f32) : FVec F S32x1 .f32 :=
  addf (shapeCast S32x1 (multiReduction .add [1] S32 a 0x00000000#32 reduces_S32x8192_S32 (.inl rfl) rfl) shapeCasts_S32_S32x1)
    (shapeCast S32x1 (multiReduction .add [1] S32 b 0x00000000#32 reduces_S32x8192_S32 (.inl rfl) rfl) shapeCasts_S32_S32x1)
/-- The half `a` of the softmax of the rows `a`, `b`, whose maxima and sums are `m` and `z`. -/
def divV (e : FVec F S32x8192 .f32) (z : FVec F S32x1 .f32) : FVec F S32x8192 .f32 :=
  shapeCast S32x8192 (divf e (broadcastTo S32x8192 z broadcasts_S32x1_S32x8192)) shapeCasts_S32x8192_S32x8192
/-- What a stripe stores: its own half … -/
def softMy (a : FVec F S32x8192 .f32) (p : Fin 16 → FVec F S32x512 .f32) : FVec F S32x8192 .f32 :=
  divV (expV a (maxV a (nbV p))) (sumV (expV a (maxV a (nbV p))) (expV (nbV p) (maxV a (nbV p))))
/-- … and the peer's. -/
def softNb (a : FVec F S32x8192 .f32) (p : Fin 16 → FVec F S32x512 .f32) : FVec F S32x8192 .f32 :=
  divV (expV (nbV p) (maxV a (nbV p))) (sumV (expV a (maxV a (nbV p))) (expV (nbV p) (maxV a (nbV p))))

/-! ## The pieces of the program -/

/-- Start the load of chunk `c`'s weights. -/
def pLoad (c : Fin 16) (k : PR F) : PR F :=
  .op (.enqueueDma (vLoad c) (.here (vSlot c)) (.dma (semLoad c)) (View.wordExact_bits rfl) ((View.wordExact_bits rfl).reshape _ _) ⟨Or.inl rfl, trivial⟩) fun _ => k

/-- Wait for it. -/
def pLoadWait (c : Fin 16) (k : PR F) : PR F :=
  .op (.waitDma2 (semLoad c) (vLoad c) (vSlot c) (View.wordExact_bits rfl) ((View.wordExact_bits rfl).reshape _ _)) fun _ => k

/-- Compute chunk `c` and store its logits, quantised logits and scales. -/
def pChunk (d : Dev nD) (x : FVec F S512x1024 .bf16) (c : Fin 16) (k : PR F) : PR F :=
  .op (.load mWb (rSlot c).toLoadRect (View.loadsAt_vmem h_S1x1024x512)) fun w =>
  .op (.load mOb (rOb d c).toLoadRect (View.loadsAt_vmem h_S512x512)) fun _ =>
  .op (.store mOb (rOb d c) (logitsV x w) Finset.univ (View.stores_vmem_bits_univ h_S512x512 rfl) (.inl rfl)) fun _ =>
  .op (.load mSb (rSb c).toLoadRect (View.loadsAt_vmem h_S512x512)) fun _ =>
  .op (.store mSb (rSb c) (quantV x w) Finset.univ (View.stores_vmem h_S512x512 ((Memref.isWhole_whole _).storeExact_slice rfl _ (packedSb c)) (fun _ => rfl)) (.inl rfl)) fun _ =>
  .op (.load mSs (rSs c).toLoadRect (View.loadsAt_vmem h_S1x1x512)) fun _ =>
  .op (.store mSs (rSs c) (scaleV x w) Finset.univ (View.stores_vmem_bits_univ h_S1x1x512 rfl) (.inl rfl)) fun _ => k

/-- Send group `g`'s scales. -/
def pSendS (d : Dev nD) (g : Fin 4) (k : PR F) : PR F :=
  .op (.enqueueDma (vSs g) (.remote (Dev.tc (peer d)) (vRs g) (.dma (semSSend g))) (.dma (semSRecv g)) ((View.wordExact_bits rfl).reshape _ _) ((View.wordExact_bits rfl).reshape _ _) ⟨⟨rfl, Or.inl rfl⟩, trivial⟩) fun _ => k

/-- Send row block `r` of group `g`'s quantised logits. -/
def pSend (d : Dev nD) (g : Fin 4) (r : Fin 8) (k : PR F) : PR F :=
  .op (.enqueueDma (vSb g r) (.remote (Dev.tc (peer d)) (vRb g r) (.dma (semSend g r))) (.dma (semRecv g r)) ((Memref.isWhole_whole _).wordExact_slice rfl _ (wordsSend g r)) ((Memref.isWhole_whole _).wordExact_slice rfl _ (wordsSend g r)) ⟨⟨rfl, Or.inl rfl⟩, trivial⟩) fun _ => k

/-- All of group `g`. -/
def pGroup (d : Dev nD) (g : Fin 4) (k : PR F) : PR F :=
  pSendS d g ((List.finRange 8).foldr (pSend d g) k)

/-- The chunk `c` from its wait on: the next load is under way before it. -/
def pStep (d : Dev nD) (x : FVec F S512x1024 .bf16) (c : Fin 16) (k : PR F) : PR F :=
  pLoadWait c (pChunk d x c k)

def pRecvS (g : Fin 4) (k : PR F) : PR F :=
  .op (.waitDma2 (semSRecv g) (vSs g) (vRs g) ((View.wordExact_bits rfl).reshape _ _) ((View.wordExact_bits rfl).reshape _ _)) fun _ => k
def pRecv (r : Fin 8) (g : Fin 4) (k : PR F) : PR F :=
  .op (.waitDma2 (semRecv g r) (vSb g r) (vRb g r) ((Memref.isWhole_whole _).wordExact_slice rfl _ (wordsSend g r)) ((Memref.isWhole_whole _).wordExact_slice rfl _ (wordsSend g r))) fun _ => k
def pSentS (g : Fin 4) (k : PR F) : PR F :=
  .op (.waitDma2 (semSSend g) (vRs g) (vSs g) ((View.wordExact_bits rfl).reshape _ _) ((View.wordExact_bits rfl).reshape _ _)) fun _ => k
def pSent (g : Fin 4) (r : Fin 8) (k : PR F) : PR F :=
  .op (.waitDma2 (semSend g r) (vRb g r) (vSb g r) ((Memref.isWhole_whole _).wordExact_slice rfl _ (wordsSend g r)) ((Memref.isWhole_whole _).wordExact_slice rfl _ (wordsSend g r))) fun _ => k

/-- Read piece `c` of the peer's half of stripe `s`. -/
def pPiece (s c : Fin 16) (k : FVec F S32x512 .f32 → PR F) : PR F :=
  .op (.load mRb (rRb s c).toLoadRect (View.loadsAt_vmem h_S32x512)) fun q =>
  .op (.load mRs (rRs s c).toLoadRect (View.loadsAt_vmem h_S1x1x32)) fun z => k (deqV q z)

/-- All sixteen pieces. -/
def pPieces (s : Fin 16) (k : (Fin 16 → FVec F S32x512 .f32) → PR F) : PR F :=
  pPiece s 0 fun p0 => pPiece s 1 fun p1 => pPiece s 2 fun p2 => pPiece s 3 fun p3 =>
  pPiece s 4 fun p4 => pPiece s 5 fun p5 => pPiece s 6 fun p6 => pPiece s 7 fun p7 =>
  pPiece s 8 fun p8 => pPiece s 9 fun p9 => pPiece s 10 fun p10 => pPiece s 11 fun p11 =>
  pPiece s 12 fun p12 => pPiece s 13 fun p13 => pPiece s 14 fun p14 => pPiece s 15 fun p15 =>
  k ![p0, p1, p2, p3, p4, p5, p6, p7, p8, p9, p10, p11, p12, p13, p14, p15]

/-- Normalise stripe `s`. -/
def pStripe (d : Dev nD) (s : Fin 16) (k : PR F) : PR F :=
  .op (.load mOb (rMy d s).toLoadRect (View.loadsAt_vmem h_S32x8192)) fun (a : Vec F S32x8192 .f32) =>
  pPieces s fun p =>
  .op (.load mOb (rMy d s).toLoadRect (View.loadsAt_vmem h_S32x8192)) fun _ =>
  .op (.store mOb (rMy d s) (softMy a p) Finset.univ (View.stores_vmem_bits_univ h_S32x8192 rfl) (.inl rfl)) fun _ =>
  .op (.load mOb (rNb d s).toLoadRect (View.loadsAt_vmem h_S32x8192)) fun _ =>
  .op (.store mOb (rNb d s) (softNb a p) Finset.univ (View.stores_vmem_bits_univ h_S32x8192 rfl) (.inl rfl)) fun _ => k

/-- The two stripes of a row block. -/
def stripeOf (r : Fin 8) (i : Fin 2) : Fin 16 := ⟨2 * r.val + i.val, by omega⟩

/-- Copy row block `r` out, and wait for it. -/
def pOut (r : Fin 8) (k : PR F) : PR F :=
  .op (.enqueueDma (vOb r) (.here (vO r)) (.dma (semOut r)) (View.wordExact_bits rfl) (View.wordExact_bits rfl) ⟨Or.inl rfl, trivial⟩) fun _ => k
def pOutWait (r : Fin 8) (k : PR F) : PR F :=
  .op (.waitDma2 (semOut r) (vOb r) (vO r) (View.wordExact_bits rfl) (View.wordExact_bits rfl)) fun _ => k

/-- Row block `r`: its four pieces arrive, its two stripes are normalised, and it leaves. -/
def pRow (d : Dev nD) (r : Fin 8) (k : PR F) : PR F :=
  (List.finRange 4).foldr (pRecv r) (pStripe d (stripeOf r 0) (pStripe d (stripeOf r 1) (pOut r k)))

/-- The last waits. -/
def pDrain (k : PR F) : PR F :=
  (List.finRange 8).foldr pOutWait
    ((List.finRange 4).foldr (fun g k' => pSentS g ((List.finRange 8).foldr (pSent g) k')) k)

/-- The rows: the scales arrive, then the row blocks. -/
def pRows (d : Dev nD) (k : PR F) : PR F :=
  (List.finRange 4).foldr pRecvS ((List.finRange 8).foldr (pRow d) k)

/-- The chunks of group `g` from `c` on: the list of its chunks but the last of all, then its sends. -/
def pChunks (d : Dev nD) (x : FVec F S512x1024 .bf16) (l : List (Fin 15)) (k : PR F) : PR F :=
  l.foldr (fun c k' => pLoad c.succ (pStep d x c.castSucc k')) k

/-- The whole body. -/
def pBody (mX : Memref sig .tc .vmem S512x1024 .f32) : PR F :=
  .op .deviceId fun d =>
  pLoad 0 <|
  .op (.semSignal (peer d, .tc) barSem 1) fun _ =>
  .op (.semWait barSem 1) fun _ =>
  .op (.load mX rX.toLoadRect (View.loadsAt_vmem h_S512x1024)) fun x =>
  pChunks d (k0_pay1 x) [0] <| pGroup d 0 <|
  pChunks d (k0_pay1 x) [1, 2] <| pGroup d 1 <|
  pChunks d (k0_pay1 x) [3, 4, 5, 6] <| pGroup d 2 <|
  pChunks d (k0_pay1 x) [7, 8, 9, 10, 11, 12, 13, 14] <| pStep d (k0_pay1 x) 15 <| pGroup d 3 <|
  pRows d <| pDrain <| .ret ⟨⟩

set_option maxRecDepth 65536 in
/-- The printed body is the structured one. -/
theorem body_eq (mX : Memref sig .tc .vmem S512x1024 .f32) (hX : mX.IsWhole) :
    cc0_body (F := F) mX hX mW (Memref.isWhole_whole _) mO (Memref.isWhole_whole _) mOb (Memref.isWhole_whole _)
      mWb (Memref.isWhole_whole _) mSb (Memref.isWhole_whole _) mRb (Memref.isWhole_whole _) mSs (Memref.isWhole_whole _)
      mRs (Memref.isWhole_whole _) cc0_scratch6 cc0_scratch7 cc0_scratch8 cc0_scratch9 cc0_scratch10 cc0_scratch11
      = pBody mX := by
  chain_rfl

end Cert.KernelIdeal.Exchange

end
-- ==== Proof.Ideal.Data.lean ====
/- What the buffers hold during the run, as functions of the arguments: the logits of a device's half of the columns,
   their quantised form and scales, and the result. -/
module

public import proofs.«01_k».proof.Proof.Ideal.Body
public import Idealize.ShloMosaic.Lib.ValueIdx
public import Idealize.ShloMosaic.Lib.ValueIdxCoords
public import Idealize.ShloMosaic.Lib.ValueLayout
public import Idealize.ShloMosaic.Lib.Pipeline.Value
public import Idealize.ShloMosaic.Lib.Pipeline.ValueKit

@[expose] public section

noncomputable section

namespace Cert.KernelIdeal.Exchange

open Idealize.ShloMosaic Idealize.ShloMosaic.TcCoe Idealize.SL.Sem Cert.KernelIdeal.Gen
open Idealize.ShloMosaic.ValueIdx

variable {F : FTy → Type} [FloatOps F]

variable (F) in
abbrev Mem : Type := (ℓ : Loc nD τ sig) → Buf (Elt F) ℓ

variable (m : Mem F)

/-! ## Reading and writing at an index -/

section Views
variable {s : Shape} {e : EltTy} {sp : Space} {Val : EltTy → Type}

/-- What a full write leaves on the view's elements, when it is `G` there. -/
theorem write_agree (v : View sig .tc sp s e) (f : v.ty.Contents Val) (w : s.Idx → Val e) (G : v.ty.Contents Val)
    (h : ∀ x, w x = v.read Val G x) : ∀ i ∈ v.set, v.write Val f w Finset.univ i = G i := by
  intro i hi
  obtain ⟨x, rfl⟩ := View.exists_emb_of_mem_set v hi
  rw [View.write_emb_of_mem _ _ (Finset.mem_univ x), h, View.read_apply, cast_cast, cast_eq]

/-- Off the view a write changes nothing. -/
theorem write_off (v : View sig .tc sp s e) (f : v.ty.Contents Val) (w : s.Idx → Val e) {i : v.ty.Idx} (h : i ∉ v.set) :
    v.write Val f w Finset.univ i = f i := View.write_of_not_mem _ _ _ h

end Views

/-- Coordinates of an element of a rectangle of a whole buffer. -/
theorem emb_val (b : Ref sig .tc) (off size : Fin b.ty.shape.rank → Nat) (inb)
    (j : (Rect.unit off size inb).shape.Idx) (a : Fin b.ty.shape.rank) :
    ((((View.whole b).slice (Rect.unit off size inb)).emb j a : Fin _) : Nat) = off a + j a :=
  ValueKit.view_emb_slice_whole_unit_val b off size inb j a

/-- What a rectangle of a whole buffer reads. -/
theorem read_unit {Val : EltTy → Type} (b : Ref sig .tc) (off size : Fin b.ty.shape.rank → Nat) (inb)
    (f : b.ty.Contents Val) (x : (Rect.unit off size inb).shape.Idx) (j : b.ty.shape.Idx)
    (h : ∀ a, ((j a : Fin _) : Nat) = off a + x a) : ((View.whole b).slice (Rect.unit off size inb)).read Val f x = f j := by
  have e : ((View.whole b).slice (Rect.unit off size inb)).emb x = j :=
    funext fun a => Fin.ext ((emb_val b off size inb x a).trans (h a).symm)
  rw [← e]; rfl

/-- What a full write of a rectangle of a whole buffer leaves inside it, -/
theorem write_unit_in {Val : EltTy → Type} (b : Ref sig .tc) (off size : Fin b.ty.shape.rank → Nat) (inb)
    (f : b.ty.Contents Val) (w : (Rect.unit off size inb).shape.Idx → Val b.ty.elt) (x : (Rect.unit off size inb).shape.Idx) (j : b.ty.shape.Idx)
    (h : ∀ a, ((j a : Fin _) : Nat) = off a + x a) :
    ((View.whole b).slice (Rect.unit off size inb)).write Val f w Finset.univ j = w x := by
  have e : ((View.whole b).slice (Rect.unit off size inb)).emb x = j :=
    funext fun a => Fin.ext ((emb_val b off size inb x a).trans (h a).symm)
  rw [← e, View.write_emb_of_mem _ _ (Finset.mem_univ x)]; rfl
/-- and outside. -/
theorem write_unit_out {Val : EltTy → Type} (b : Ref sig .tc) (off size : Fin b.ty.shape.rank → Nat) (inb)
    (f : b.ty.Contents Val) (w : (Rect.unit off size inb).shape.Idx → Val b.ty.elt) (j : b.ty.shape.Idx) (a : Fin b.ty.shape.rank)
    (h : ((j a : Fin _) : Nat) < off a ∨ off a + size a ≤ ((j a : Fin _) : Nat)) :
    ((View.whole b).slice (Rect.unit off size inb)).write Val f w Finset.univ j = f j := by
  refine View.write_of_not_mem _ _ _ fun hm => ?_
  rw [View.setOn_univ, View.set_slice_whole] at hm
  have := (Rect.mem_set_unit.1 hm) a
  omega

/-! ## Contents -/

/-- The rows of `x` as staged. -/
def xstg (d : Dev nD) : (cc0_stg0_0 : Ref sig .tc).ty.Contents (Elt F) :=
  (win0_0.blk (0 : Fin 1)).view.read (Elt F) (m ((d : Thread nD τ).loc main_arg0))
/-- `x` as the products take it. -/
def xv (d : Dev nD) : FVec F S512x1024 .bf16 := k0_pay1 (xstg m d)
/-- The device's half of the weights. -/
def wArr (d : Dev nD) : S1024x8192.Idx → Elt F .f32 := m ((d : Thread nD τ).loc main_arg1)
/-- Chunk `c` of it, as loaded from its slot. -/
def wv (d : Dev nD) (c : Fin 16) : Vec F S1x1024x512 .f32 :=
  fun i => wArr m d (ValueIdx.ix2 (n0 := 1024) (n1 := 8192) (i 1) ⟨512 * c.val + (i 2).val, by have := (i 2).isLt; have := c.isLt; simp only [Shape.size] at *; simp at *; omega⟩)

def lgV (d : Dev nD) (c : Fin 16) : FVec F S512x512 .f32 := logitsV (xv m d) (wv m d c)
def qV (d : Dev nD) (c : Fin 16) : IVec S512x512 8 := quantV (xv m d) (wv m d c)
def sV (d : Dev nD) (c : Fin 16) : FVec F S1x1x512 .f32 := scaleV (xv m d) (wv m d c)

/-- The chunk of a column, and the column's place in it. -/
def chk (j : Fin 8192) : Fin 16 := ⟨j.val / 512, by omega⟩
def inchk (j : Fin 8192) : Fin 512 := ⟨j.val % 512, Nat.mod_lt _ (by decide)⟩

/-- All logits of the device's half; -/
def lgF (d : Dev nD) : S512x8192.Idx → Elt F .f32 := fun i => lgV m d (chk (i 1)) (ValueIdx.ix2 (n0 := 512) (n1 := 512) (i 0) (inchk (i 1)))
/-- and all its quantised logits. -/
def qF (d : Dev nD) : S512x8192.Idx → Elt F .i8 := fun i => qV m d (chk (i 1)) (ValueIdx.ix2 (n0 := 512) (n1 := 512) (i 0) (inchk (i 1)))

theorem chk_eq (c : Fin 16) (j : Fin 8192) (k : Fin 512) (h : j.val = 512 * c.val + k.val) : chk j = c ∧ inchk j = k := by
  refine ⟨Fin.ext ?_, Fin.ext ?_⟩ <;> simp only [chk, inchk] <;> omega

theorem lgF_at (d : Dev nD) (c : Fin 16) (i : S512x8192.Idx) (r k : Fin 512) (h0 : (i 0).val = r.val)
    (h1 : (i 1).val = 512 * c.val + k.val) : lgF m d i = lgV m d c (ValueIdx.ix2 r k) := by
  obtain ⟨hc, hk⟩ := chk_eq c (i 1) k h1
  unfold lgF; rw [hc, hk, show (i 0 : Fin 512) = r from Fin.ext h0]
theorem qF_at (d : Dev nD) (c : Fin 16) (i : S512x8192.Idx) (r k : Fin 512) (h0 : (i 0).val = r.val)
    (h1 : (i 1).val = 512 * c.val + k.val) : qF m d i = qV m d c (ValueIdx.ix2 r k) := by
  obtain ⟨hc, hk⟩ := chk_eq c (i 1) k h1
  unfold qF; rw [hc, hk, show (i 0 : Fin 512) = r from Fin.ext h0]

/-- A row of a stripe. -/
def srow (s : Fin 16) (r : Fin 32) : Fin 512 := ⟨32 * s.val + r.val, by omega⟩

/-- A stripe of the device's logits; -/
def lgS (d : Dev nD) (s : Fin 16) : FVec F S32x8192 .f32 := fun i => lgF m d (ValueIdx.ix2 (n0 := 512) (n1 := 8192) (srow s (i 0)) (i 1))
/-- a piece of a stripe of its quantised logits, -/
def qP (d : Dev nD) (s c : Fin 16) : Vec F S32x512 .i8 := fun i => qV m d c (ValueIdx.ix2 (n0 := 512) (n1 := 512) (srow s (i 0)) (i 1))
/-- of its scales, -/
def sP (d : Dev nD) (s c : Fin 16) : Vec F S1x1x32 .f32 := fun i => sV m d c (ValueIdx.ix3 (n0 := 1) (n1 := 1) (n2 := 512) 0 0 (srow s (i 2)))
/-- and what its peer rebuilds from the two. -/
def dqP (d : Dev nD) (s c : Fin 16) : FVec F S32x512 .f32 := deqV (qP m d s c) (sP m d s c)

/-- The stripe's results. -/
def outMy (d : Dev nD) (s : Fin 16) : FVec F S32x8192 .f32 := softMy (lgS m d s) (dqP m (peer d) s)
def outNb (d : Dev nD) (s : Fin 16) : FVec F S32x8192 .f32 := softNb (lgS m d s) (dqP m (peer d) s)

def strp (r : Fin 512) : Fin 16 := ⟨r.val / 32, by omega⟩
def instrp (r : Fin 512) : Fin 32 := ⟨r.val % 32, Nat.mod_lt _ (by decide)⟩
def hcol (j : Fin 16384) : Fin 8192 := ⟨j.val % 8192, Nat.mod_lt _ (by decide)⟩

theorem strp_eq (s : Fin 16) (i : Fin 512) (r : Fin 32) (h : i.val = 32 * s.val + r.val) : strp i = s ∧ instrp i = r := by
  refine ⟨Fin.ext ?_, Fin.ext ?_⟩ <;> simp only [strp, instrp] <;> omega

/-- The result. -/
def outF (d : Dev nD) : S512x16384.Idx → Elt F .f32 := fun i =>
  if (i 1).val / 8192 = d.val / 8 then outMy m d (strp (i 0)) (ValueIdx.ix2 (n0 := 32) (n1 := 8192) (instrp (i 0)) (hcol (i 1)))
  else outNb m d (strp (i 0)) (ValueIdx.ix2 (n0 := 32) (n1 := 8192) (instrp (i 0)) (hcol (i 1)))

theorem d8 (d : Dev nD) : d.val / 8 = 0 ∨ d.val / 8 = 1 := by have := d.isLt; simp only [nD] at this; omega

theorem outF_my (d : Dev nD) (s : Fin 16) (i : S512x16384.Idx) (r : Fin 32) (k : Fin 8192) (h0 : (i 0).val = 32 * s.val + r.val)
    (h1 : (i 1).val = 8192 * (d.val / 8) + k.val) : outF m d i = outMy m d s (ValueIdx.ix2 r k) := by
  obtain ⟨hs, hr⟩ := strp_eq s (i 0) r h0
  have := k.isLt
  unfold outF; rw [if_pos (by omega), hs, hr, show hcol (i 1) = k from Fin.ext (by simp only [hcol]; omega)]
theorem outF_nb (d : Dev nD) (s : Fin 16) (i : S512x16384.Idx) (r : Fin 32) (k : Fin 8192) (h0 : (i 0).val = 32 * s.val + r.val)
    (h1 : (i 1).val = 8192 - 8192 * (d.val / 8) + k.val) : outF m d i = outNb m d s (ValueIdx.ix2 r k) := by
  obtain ⟨hs, hr⟩ := strp_eq s (i 0) r h0
  have := k.isLt
  have hd := d8 d
  unfold outF; rw [if_neg (by omega), hs, hr, show hcol (i 1) = k from Fin.ext (by simp only [hcol]; omega)]

/-! ## Elements of the views -/

abbrev set2 {a b : ℕ} (o0 o1 n0 n1 : ℕ) (h : ∀ x, (![o0, o1] : Fin 2 → ℕ) x + (![n0, n1] : Fin 2 → ℕ) x ≤ (⟨2, ![a, b]⟩ : Shape).size x) :
    Finset (⟨2, ![a, b]⟩ : Shape).Idx := (Rect.unit (s := ⟨2, ![a, b]⟩) ![o0, o1] ![n0, n1] h).set

theorem mem_set2 {a b o0 o1 n0 n1 : ℕ} {h} {i : (⟨2, ![a, b]⟩ : Shape).Idx} :
    i ∈ set2 o0 o1 n0 n1 h ↔ (o0 ≤ (i 0).val ∧ (i 0).val < o0 + n0) ∧ (o1 ≤ (i 1).val ∧ (i 1).val < o1 + n1) :=
  Rect.mem_set_unit.trans Fin.forall_fin_two

/-- The landing place and the source of a row block of a group. -/
abbrev setG (g : Fin 4) (r : Fin 8) : Finset S512x8192.Idx := (rSend g r).set
/-- All of a group's columns. -/
theorem inbGC (g : Fin 4) : ∀ a, (![0, gOff g] : Fin 2 → ℕ) a + (![512, gWid g] : Fin 2 → ℕ) a ≤ S512x8192.size a := by
  revert g; decide
abbrev setGC (g : Fin 4) : Finset S512x8192.Idx := set2 0 (gOff g) 512 (gWid g) (inbGC g)

theorem mem_setG {g : Fin 4} {r : Fin 8} {i : S512x8192.Idx} :
    i ∈ setG g r ↔ (64 * r.val ≤ (i 0).val ∧ (i 0).val < 64 * r.val + 64) ∧ (gOff g ≤ (i 1).val ∧ (i 1).val < gOff g + gWid g) :=
  Rect.mem_set_unit.trans Fin.forall_fin_two
theorem mem_setGC {g : Fin 4} {i : S512x8192.Idx} :
    i ∈ setGC g ↔ (0 ≤ (i 0).val ∧ (i 0).val < 0 + 512) ∧ (gOff g ≤ (i 1).val ∧ (i 1).val < gOff g + gWid g) := mem_set2

/-- A group of the scales. -/
abbrev setGS (g : Fin 4) : Finset S4x16x512.Idx := (rGs g).set
theorem mem_setGS {g : Fin 4} {i : S4x16x512.Idx} : i ∈ setGS g ↔ (i 0).val = g.val := by
  refine Rect.mem_set_unit.trans (Fin.forall_fin_succ.trans ?_)
  refine ⟨fun h => ?_, fun h => ⟨?_, ?_⟩⟩
  · have := h.1; change g.val ≤ (i 0).val ∧ (i 0).val < g.val + 1 at this; omega
  · change g.val ≤ (i 0).val ∧ (i 0).val < g.val + 1; omega
  · refine Fin.forall_fin_two.mpr ⟨?_, ?_⟩
    · change 0 ≤ (i 1).val ∧ (i 1).val < 0 + 16; have : (i 1).val < 16 := (i 1).isLt; omega
    · change 0 ≤ (i 2).val ∧ (i 2).val < 0 + 512; have : (i 2).val < 512 := (i 2).isLt; omega

theorem gcol (g g' : Fin 4) (h : g ≠ g') : gOff g + gWid g ≤ gOff g' ∨ gOff g' + gWid g' ≤ gOff g := by
  revert g g'; decide

theorem setG_disj (x y : Fin 4 × Fin 8) (h : x ≠ y) : Disjoint (setG x.1 x.2) (setG y.1 y.2) := by
  rw [Finset.disjoint_left]
  intro i hi hj
  have hi := mem_setG.1 hi
  have hj := mem_setG.1 hj
  by_cases hg : x.1 = y.1
  · have hr : x.2 ≠ y.2 := fun e => h (Prod.ext hg e)
    have : x.2.val ≠ y.2.val := fun e => hr (Fin.ext e)
    omega
  · rcases gcol _ _ hg with h | h <;> omega

theorem setGC_disj (g g' : Fin 4) (h : g ≠ g') : Disjoint (setGC g) (setGC g') := by
  rw [Finset.disjoint_left]
  intro i hi hj
  have hi := mem_setGC.1 hi
  have hj := mem_setGC.1 hj
  rcases gcol _ _ h with h | h <;> omega

theorem setGS_disj (g g' : Fin 4) (h : g ≠ g') : Disjoint (setGS g) (setGS g') := by
  rw [Finset.disjoint_left]
  intro i hi hj
  have hi := mem_setGS.1 hi
  have hj := mem_setGS.1 hj
  exact h (Fin.ext (hi.symm.trans hj))

theorem gOf (j : ℕ) (h : j < 8192) : ∃ g : Fin 4, gOff g ≤ j ∧ j < gOff g + gWid g := by
  have e : ∀ g : Fin 4, gOff g = (![0, 512, 1536, 3584] : Fin 4 → ℕ) g ∧ gWid g = (![512, 1024, 2048, 4608] : Fin 4 → ℕ) g := fun _ => ⟨rfl, rfl⟩
  rcases Nat.lt_or_ge j 512 with h1 | h1
  · exact ⟨0, by show 0 ≤ j ∧ j < 0 + 512; omega⟩
  rcases Nat.lt_or_ge j 1536 with h2 | h2
  · exact ⟨1, by show 512 ≤ j ∧ j < 512 + 1024; omega⟩
  rcases Nat.lt_or_ge j 3584 with h3 | h3
  · exact ⟨2, by show 1536 ≤ j ∧ j < 1536 + 2048; omega⟩
  · exact ⟨3, by show 3584 ≤ j ∧ j < 3584 + 4608; omega⟩

theorem setG_cover : (Finset.univ : Finset (Fin 4 × Fin 8)).biUnion (fun x => setG x.1 x.2) = Finset.univ := by
  refine Finset.eq_univ_of_forall fun i => ?_
  have h0 : (i 0).val < 512 := (i 0).isLt
  obtain ⟨g, hg⟩ := gOf (i 1).val (i 1).isLt
  exact Finset.mem_biUnion.2 ⟨(g, ⟨(i 0).val / 64, by omega⟩), Finset.mem_univ _, mem_setG.2 ⟨by dsimp only; omega, hg⟩⟩
theorem setGC_cover : (Finset.univ : Finset (Fin 4)).biUnion setGC = Finset.univ := by
  refine Finset.eq_univ_of_forall fun i => ?_
  have h0 : (i 0).val < 512 := (i 0).isLt
  obtain ⟨g, hg⟩ := gOf (i 1).val (i 1).isLt
  exact Finset.mem_biUnion.2 ⟨g, Finset.mem_univ _, mem_setGC.2 ⟨by omega, hg⟩⟩
theorem setGC_rows (g : Fin 4) : (Finset.univ : Finset (Fin 8)).biUnion (fun r => setG g r) = setGC g := by
  refine Finset.ext fun i => ?_
  have h0 : (i 0).val < 512 := (i 0).isLt
  rw [Finset.mem_biUnion]
  constructor
  · rintro ⟨r, -, h⟩; exact mem_setGC.2 ⟨by omega, (mem_setG.1 h).2⟩
  · intro h; exact ⟨⟨(i 0).val / 64, by omega⟩, Finset.mem_univ _, mem_setG.2 ⟨by dsimp only; omega, (mem_setGC.1 h).2⟩⟩
theorem setGS_cover : (Finset.univ : Finset (Fin 4)).biUnion setGS = Finset.univ := by
  refine Finset.eq_univ_of_forall fun i => ?_
  exact Finset.mem_biUnion.2 ⟨i 0, Finset.mem_univ _, mem_setGS.2 rfl⟩

/-- The rows of a stripe, and of a row block, of the output. -/
theorem inbStr (s : Fin 16) : ∀ a, (![32 * s.val, 0] : Fin 2 → ℕ) a + (![32, 16384] : Fin 2 → ℕ) a ≤ S512x16384.size a := by
  revert s; decide
abbrev setStr (s : Fin 16) : Finset S512x16384.Idx := set2 (32 * s.val) 0 32 16384 (inbStr s)
abbrev setOut (r : Fin 8) : Finset S512x16384.Idx := (rOut r).set

theorem mem_setStr {s : Fin 16} {i : S512x16384.Idx} : i ∈ setStr s ↔ 32 * s.val ≤ (i 0).val ∧ (i 0).val < 32 * s.val + 32 := by
  refine mem_set2.trans ⟨fun h => h.1, fun h => ⟨h, ?_⟩⟩
  have : (i 1).val < 16384 := (i 1).isLt; omega
theorem mem_setOut {r : Fin 8} {i : S512x16384.Idx} : i ∈ setOut r ↔ 64 * r.val ≤ (i 0).val ∧ (i 0).val < 64 * r.val + 64 := by
  refine (Rect.mem_set_unit.trans Fin.forall_fin_two).trans ⟨fun h => h.1, fun h => ⟨h, ?_⟩⟩
  change 0 ≤ (i 1).val ∧ (i 1).val < 0 + 16384
  have : (i 1).val < 16384 := (i 1).isLt; omega

theorem setStr_disj (s s' : Fin 16) (h : s ≠ s') : Disjoint (setStr s) (setStr s') := by
  rw [Finset.disjoint_left]
  intro i hi hj
  have hi := mem_setStr.1 hi
  have hj := mem_setStr.1 hj
  exact h (Fin.ext (by omega))
theorem setOut_disj (r r' : Fin 8) (h : r ≠ r') : Disjoint (setOut r) (setOut r') := by
  rw [Finset.disjoint_left]
  intro i hi hj
  have hi := mem_setOut.1 hi
  have hj := mem_setOut.1 hj
  exact h (Fin.ext (by omega))
theorem setStr_cover : (Finset.univ : Finset (Fin 8)).biUnion (fun r => setStr (stripeOf r 0) ∪ setStr (stripeOf r 1)) = Finset.univ := by
  refine Finset.eq_univ_of_forall fun i => ?_
  have h0 : (i 0).val < 512 := (i 0).isLt
  refine Finset.mem_biUnion.2 ⟨⟨(i 0).val / 64, by omega⟩, Finset.mem_univ _, Finset.mem_union.2 ?_⟩
  rcases Nat.lt_or_ge ((i 0).val % 64) 32 with h | h
  · left; exact mem_setStr.2 (by simp only [stripeOf]; simp; omega)
  · right; exact mem_setStr.2 (by simp only [stripeOf]; simp; omega)
theorem setStr_out (r : Fin 8) : setStr (stripeOf r 0) ∪ setStr (stripeOf r 1) = setOut r := by
  refine Finset.ext fun i => ?_
  rw [Finset.mem_union]
  constructor
  · rintro (h | h) <;> (have h := mem_setStr.1 h; simp only [stripeOf] at h; simp at h; exact mem_setOut.2 (by omega))
  · intro h
    have h := mem_setOut.1 h
    rcases Nat.lt_or_ge (i 0).val (64 * r.val + 32) with h' | h'
    · left; exact mem_setStr.2 (by simp only [stripeOf]; simp; omega)
    · right; exact mem_setStr.2 (by simp only [stripeOf]; simp; omega)
theorem stripe_two (r : Fin 8) : stripeOf r 0 ≠ stripeOf r 1 := by revert r; decide
theorem setOut_cover : (Finset.univ : Finset (Fin 8)).biUnion setOut = Finset.univ := by
  rw [← setStr_cover]; exact Finset.biUnion_congr rfl fun r _ => (setStr_out r).symm

end Cert.KernelIdeal.Exchange

end
-- ==== Proof.Ideal.Sched.lean ====
/- The schedule of the exchange: one round; a device's barrier cell is paid by its peer with the peer's landing
   buffers, a receive cell by the peer's transfer with what it carries, a send cell by the device's own transfer. -/
module

public import proofs.«01_k».proof.Proof.Ideal.Data
public import Idealize.ShloMosaic.Lib.Pipeline.Launch
public import Idealize.ShloMosaic.Lib.Pipeline.Kit
public import Idealize.ShloMosaic.Lib.Rounds
public import Idealize.ShloMosaic.Lib.Transfers
public import Idealize.ShloMosaic.Lib.Ring
public import Idealize.ShloMosaic.Lib.Tactic

@[expose] public section

noncomputable section

namespace Cert.KernelIdeal.Exchange

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's rounds, the exchange's, and the counters of the local transfers -/

abbrev UB : Type := URounds (GSem nD τ sig) Unit
abbrev UU : Type := UR sig nD τ × (UB × Counters)

local notation "𝕄" => MT nD τ sig Unit (Elt F) ℕ UU ℕ

variable (F) in
abbrev EP : Emb (UR sig nD τ) (MT nD τ sig Unit (Elt F) ℕ UU ℕ) := embL
variable (F) in
abbrev ER : Emb UB (MT nD τ sig Unit (Elt F) ℕ UU ℕ) := (Emb.inl : Emb UB (UB × Counters)).trans embR
variable (F) in
abbrev EC : UEmb Counters (MT nD τ sig Unit (Elt F) ℕ UU ℕ) := countersEmb

abbrev 𝒱₀ : Variants := Variants.none

variable (m : Mem F)

/-! ## Cells -/

/-- The transfers to the peer: the scales of a group, and each row block of its quantised logits. -/
abbrev Xf : Type := Fin 4 ⊕ Fin 4 × Fin 8

def xSend : Xf → DmaSem sig
  | .inl g => semSSend g
  | .inr (g, r) => semSend g r
def xRecv : Xf → DmaSem sig
  | .inl g => semSRecv g
  | .inr (g, r) => semRecv g r

/-- The cells of a device: its barrier, its send cells, its receive cells. -/
abbrev CK : Type := Unit ⊕ (Xf ⊕ Xf)
def csem : CK → SemLoc sig
  | .inl _ => .reg barSem
  | .inr (.inl x) => .dma (xSend x)
  | .inr (.inr x) => .dma (xRecv x)

theorem csem_inj : Function.Injective csem := by decide +kernel

abbrev kcell (ck : Dev nD × CK) : GSem nD τ sig := ((ck.1 : Thread nD τ), csem ck.2)
abbrev barCell (d : Dev nD) : GSem nD τ sig := kcell (d, .inl ())
abbrev sendCell (d : Dev nD) (x : Xf) : GSem nD τ sig := kcell (d, .inr (.inl x))
abbrev recvCell (d : Dev nD) (x : Xf) : GSem nD τ sig := kcell (d, .inr (.inr x))

theorem kcell_inj : Function.Injective kcell := by
  rintro ⟨c, k⟩ ⟨c', k'⟩ h
  have h1 : c = c' := congrArg (fun g : GSem nD τ sig => g.1.1) h
  have h2 : k = k' := csem_inj (congrArg Prod.snd h)
  rw [h1, h2]

/-- The credit of a transfer. -/
def N : Xf → ℕ
  | .inl g => (vRs g).view.dmaCredit
  | .inr (g, r) => (vRb g r).view.dmaCredit

theorem N_pos (x : Xf) : 0 < N x := by
  rcases x with g | ⟨g, r⟩
  · exact View.dmaCredit_pos _ (by decide)
  · exact View.dmaCredit_pos _ (by revert g; decide)

theorem peer_peer (d : Dev nD) : peer (peer d) = d := by revert d; decide +kernel
theorem peer_ne (d : Dev nD) : peer d ≠ d := by revert d; decide +kernel
theorem peer_half (d : Dev nD) : (peer d).val / 8 = 1 - d.val / 8 := by revert d; decide +kernel
def swap : Dev nD ≃ Dev nD := ⟨peer, peer, peer_peer, peer_peer⟩

/-! ## What the cells carry -/

/-- The scales of group `g` are device `d`'s. -/
def SOK (d : Dev nD) (g : Fin 4) (f : S4x16x512.Idx → Elt F .f32) : Prop :=
  ∀ (c : Fin 16) (l : Fin 16), cGrp c = g → l.val = cLoc c → ∀ row : Fin 512,
    f (ValueIdx.ix3 (n0 := 4) (n1 := 16) (n2 := 512) g l row) = sV m d c (ValueIdx.ix3 (n0 := 1) (n1 := 1) (n2 := 512) 0 0 row)

abbrev obL (d : Dev nD) : Loc nD τ sig := (d : Thread nD τ).loc cc0_scratch0
abbrev wbL (d : Dev nD) : Loc nD τ sig := (d : Thread nD τ).loc cc0_scratch1
abbrev sbL (d : Dev nD) : Loc nD τ sig := (d : Thread nD τ).loc cc0_scratch2
abbrev rbL (d : Dev nD) : Loc nD τ sig := (d : Thread nD τ).loc cc0_scratch3
abbrev ssL (d : Dev nD) : Loc nD τ sig := (d : Thread nD τ).loc cc0_scratch4
abbrev rsL (d : Dev nD) : Loc nD τ sig := (d : Thread nD τ).loc cc0_scratch5
abbrev wL (d : Dev nD) : Loc nD τ sig := (d : Thread nD τ).loc main_arg1
abbrev oL (d : Dev nD) : Loc nD τ sig := (d : Thread nD τ).loc main_v1

def barPay (d : Dev nD) : sProp 𝕄 := iprop((∃ f, rbL (peer d) ↦{fullShare} f) ∗ (∃ f, rsL (peer d) ↦{fullShare} f))
def recvPay (d : Dev nD) : Xf → sProp 𝕄
  | .inl g => iprop(∃ f, ⌜SOK m (peer d) g f⌝ ∗ rsL d ↦[setGS g]{fullShare} f)
  | .inr (g, r) => rbL d ↦[setG g r]{fullShare} (qF m (peer d))
def sendPay (d : Dev nD) : Xf → sProp 𝕄
  | .inl g => iprop(∃ f, ssL d ↦[setGS g]{fullShare} f)
  | .inr (g, r) => iprop(∃ f, sbL d ↦[setG g r]{fullShare} f)

/-- The amount and the payload of a cell. -/
def amt : CK → ℕ
  | .inl _ => 1
  | .inr (.inl x) => N x
  | .inr (.inr x) => N x
def pay (d : Dev nD) : CK → sProp 𝕄
  | .inl _ => barPay d
  | .inr (.inl x) => sendPay d x
  | .inr (.inr x) => recvPay m d x

theorem amt_pos (k : CK) : 0 < amt k := by
  rcases k with _ | _ | _
  · exact Nat.one_pos
  · exact N_pos _
  · exact N_pos _

instance pay_storable (d : Dev nD) (k : CK) : BI.Storable (upEmb : UEmb _ 𝕄) (pay (F := F) m d k) := by
  rcases k with _ | (_ | ⟨_, _⟩) | (_ | ⟨_, _⟩) <;> dsimp only [pay, sendPay, recvPay] <;> (try unfold barPay) <;> infer_instance

abbrev isCell (g : GSem nD τ sig) : Prop := g.1.2 = .tc ∧ ∃ k, csem k = g.2

open Classical in
/-- One round of one duty per cell. -/
def Rd : Rounds.Schedule (GSem nD τ sig) Unit 𝕄 where
  duties g r := if r = 0 ∧ isCell g then {()} else ∅
  unitless _ := False
  amount g _ _ := (Function.partialInv csem g.2).elim 1 amt
  payload g _ _ := (Function.partialInv csem g.2).elim iprop(emp) (pay m g.1.1)
  amount_pos g _ _ _ := by
    cases Function.partialInv csem g.2 with
    | none => exact Nat.one_pos
    | some k => exact amt_pos k

instance Rd_payload_storable (g : GSem nD τ sig) (r : ℕ) (d : Unit) : BI.Storable (upEmb : UEmb _ 𝕄) ((Rd (F := F) m).payload g r d) := by
  show BI.Storable upEmb ((Function.partialInv csem g.2).elim iprop(emp) (pay m g.1.1))
  cases Function.partialInv csem g.2 with
  | none => exact inferInstanceAs (BI.Storable upEmb (iprop(emp) : sProp 𝕄))
  | some k => exact pay_storable m _ k

section Facts
variable (d : Dev nD) (k : CK)

theorem duties_cell : (Rd (F := F) m).duties (kcell (d, k)) 0 = {()} := by dsimp only [Rd]; exact if_pos ⟨rfl, rfl, k, rfl⟩
theorem duties_mem : () ∈ (Rd (F := F) m).duties (kcell (d, k)) 0 := by rw [duties_cell]; exact Finset.mem_singleton_self _
theorem duties_later (g : GSem nD τ sig) : ∀ r, 1 ≤ r → (Rd (F := F) m).duties g r = ∅ :=
  fun r hr => by dsimp only [Rd]; rw [if_neg fun h => by omega]
theorem amount_cell : (Rd (F := F) m).amount (kcell (d, k)) 0 () = amt k := by
  dsimp only [Rd]; rw [Function.partialInv_left csem_inj]; rfl
theorem payload_cell : (Rd (F := F) m).payload (kcell (d, k)) 0 () = pay m d k := by
  dsimp only [Rd]; rw [Function.partialInv_left csem_inj]; rfl
theorem expect_cell : (Rd (F := F) m).expect (kcell (d, k)) 0 = amt k := by
  unfold Schedule.expect Schedule.amountOf; rw [duties_cell, Finset.sum_singleton, amount_cell]
theorem rest_cell : bigSep ((Rd (F := F) m).duties (kcell (d, k)) 0 \ ∅) (fun u => (Rd (F := F) m).payload (kcell (d, k)) 0 u) = pay m d k := by
  rw [Finset.sdiff_empty, duties_cell, bigSep_singleton, payload_cell]

end Facts

/-! ## What is owed, and the levels -/

/-- What a device owes for the transfers `l` still to be sent; -/
def Ol (d : Dev nD) (l : List Xf) : CellTallies nD τ sig Unit := l.foldr (fun x O => O + tallyAt (recvCell (peer d) x) () (N x)) 0

/-- the transfers of a group, in the order sent; -/
abbrev xs (g : Fin 4) : List Xf := .inl g :: (List.finRange 8).map fun r => .inr (g, r)
abbrev xs3 : List Xf := xs 3
abbrev xs2 : List Xf := xs 2 ++ xs3
abbrev xs1 : List Xf := xs 1 ++ xs2
abbrev xs0 : List Xf := xs 0 ++ xs1

/-- at launch, all of them and the peer's barrier. -/
def O₀ (d : Dev nD) : CellTallies nD τ sig Unit := Ol d xs0 + tallyAt (barCell (peer d)) () 1

def L (g : GSem nD τ sig) : Finset Unit := if g.1.2 = .tc then {()} else ∅
open Classical in
/-- Receive cells above barriers above all else. -/
def lv (g : GSem nD τ sig) (_ : Unit) : ℕ := if g.2 = csem (.inl ()) then 1 else if ∃ x, g.2 = csem (.inr (.inr x)) then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (d : Dev nD) : lv (barCell d) () = 1 := if_pos rfl
theorem lv_recv (d : Dev nD) (x : Xf) : lv (recvCell d x) () = 2 := by
  unfold lv; rw [if_neg (fun h => by cases csem_inj (show csem (.inr (.inr x)) = csem (.inl ()) from h)), if_pos ⟨x, rfl⟩]

theorem Ol_pos {d : Dev nD} {l : List Xf} {g : GSem nD τ sig} {u : Unit} (h : 0 < Ol d l g u) : ∃ x, g = recvCell (peer d) x := by
  induction l with
  | nil => exact absurd h (Nat.lt_irrefl 0)
  | cons x l ih =>
    change 0 < (Ol d l + tallyAt (recvCell (peer d) x) () (N x)) g u at h
    rw [Pi.add_apply, Finsupp.add_apply, tallyAt_apply] at h
    by_cases hg : g = recvCell (peer d) x ∧ u = ()
    · exact ⟨x, hg.1⟩
    · rw [if_neg hg, Nat.add_zero] at h; exact ih h

theorem mayWait_of (d : Dev nD) (sm : SemLoc sig) (O : CellTallies nD τ sig Unit) (n : ℕ) (hsm : lv ((d : Thread nD τ), sm) () ≤ n)
    (hO : ∀ g u, 0 < O g u → ∃ c k, g = kcell (c, k) ∧ n < lv (kcell (c, k)) ()) :
    (levAts L lv : sProp 𝕄) ⊢ MayWait (d : Thread nD τ) sm () O :=
  MayOwe.of_cut (L := L) (lev := lv) n (fun p hp => by rw [Finset.mem_singleton.mp hp, L_tc]; exact Finset.mem_singleton_self _)
    (fun g u hg => by obtain ⟨c, k, rfl, -⟩ := hO g u hg; exact Finset.mem_singleton_self _)
    (fun p hp => by rw [Finset.mem_singleton.mp hp]; exact hsm)
    (fun g u hg => by obtain ⟨c, k, rfl, h⟩ := hO g u hg; exact h)

/-- While only transfers are owed, any semaphore that is no receive cell may be waited on. -/
theorem mayWait_ol (d : Dev nD) (sm : SemLoc sig) (l : List Xf) (hsm : lv ((d : Thread nD τ), sm) () ≤ 1) :
    (levAts L lv : sProp 𝕄) ⊢ MayWait (d : Thread nD τ) sm () (Ol d l) :=
  mayWait_of d sm _ 1 hsm fun g u h => by
    obtain ⟨x, rfl⟩ := Ol_pos h
    exact ⟨_, _, rfl, by rw [lv_recv]; exact Nat.lt_succ_self _⟩

theorem mayWait_o0 (d : Dev nD) (sm : SemLoc sig) (hsm : lv ((d : Thread nD τ), sm) () ≤ 0) :
    (levAts L lv : sProp 𝕄) ⊢ MayWait (d : Thread nD τ) sm () (O₀ d) :=
  mayWait_of d sm _ 0 hsm fun g u h => by
    unfold O₀ at h
    rw [Pi.add_apply, Finsupp.add_apply, tallyAt_apply] at h
    by_cases hg : g = barCell (peer d) ∧ u = ()
    · exact ⟨_, _, hg.1, by rw [lv_bar]; exact Nat.one_pos⟩
    · rw [if_neg hg, Nat.add_zero] at h
      obtain ⟨x, rfl⟩ := Ol_pos h
      exact ⟨_, _, rfl, by rw [lv_recv]; exact Nat.two_pos⟩

/-- A semaphore that is none of the exchange's cells is at the lowest level. -/
theorem lv_other (d : Dev nD) (q : DmaSem sig) (h : ∀ x, q ≠ xRecv x) : lv ((d : Thread nD τ), .dma q) () = 0 := by
  unfold lv
  rw [if_neg (fun h => by cases h), if_neg]
  rintro ⟨x, hx⟩
  exact h x (by injection hx)

end Cert.KernelIdeal.Exchange

end
-- ==== Proof.Ideal.Local.lean ====
/- Running the pieces of the body that stay on one device: the loads of the weights, the chunks, the stripes and the
   copies out. -/
module

public import proofs.«01_k».proof.Proof.Ideal.Sched

@[expose] public section

noncomputable section

namespace Cert.KernelIdeal.Exchange

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

variable (m : Mem F) (d : Dev nD)

/-- Running a program on device `d`. -/
abbrev wpd (d : Dev nD) (p : PR F) (Q : PUnit → sProp 𝕄) : sProp 𝕄 :=
  wp frame (wpE (defs₀ (F := F)) 𝒱₀ (d : Thread nD τ) none) Set.univ p Q

/-- What device `d` owes, whatever it has waited on. -/
def ow (d : Dev nD) (O : CellTallies nD τ sig Unit) : sProp 𝕄 := iprop(∃ W, owes (d : Thread nD τ) O W)

/-! ## Folding a step over a list -/

section Fold
variable {A : Type}

/-- One assertion per element. -/
def sepL (R : A → sProp 𝕄) (l : List A) : sProp 𝕄 := l.foldr (fun a P => iprop(R a ∗ P)) iprop(emp)

theorem sepL_cons (R : A → sProp 𝕄) (a : A) (l : List A) : sepL R (a :: l) = iprop(R a ∗ sepL R l) := rfl

theorem sepL_eq [DecidableEq A] (R : A → sProp 𝕄) (l : List A) (h : l.Nodup) : sepL R l = bigSep l.toFinset R := by
  induction l with
  | nil => exact bigSep_empty.symm
  | cons a l ih =>
    rw [List.nodup_cons] at h
    rw [sepL_cons, List.toFinset_cons, bigSep_insert (by simpa using h.1), ih h.2]; rfl

theorem sepL_finRange {n : ℕ} (R : Fin n → sProp 𝕄) : sepL R (List.finRange n) = bigSep Finset.univ R := by
  rw [sepL_eq R _ (List.nodup_finRange n), List.toFinset_finRange]

theorem wp_foldr {body : A → PR F → PR F} {R0 R1 : A → sProp 𝕄} {I : List A → sProp 𝕄} {Q : PUnit → sProp 𝕄}
    (h : ∀ a l k, iprop(R0 a ∗ I (a :: l) ∗ (iprop(R1 a ∗ I l) -∗ wpd d k Q)) ⊢ wpd d (body a k) Q) (l : List A) (k : PR F) :
    iprop(sepL R0 l ∗ I l ∗ (iprop(sepL R1 l ∗ I []) -∗ wpd d k Q)) ⊢ wpd d (l.foldr body k) Q := by
  induction l with
  | nil =>
    iintro ⟨-, HI, Hk⟩
    iapply Hk
    isplitr
    · unfold sepL; iempintro
    iexact HI
  | cons a l ih =>
    rw [sepL_cons, sepL_cons]
    iintro ⟨⟨Ha, Hl⟩, HI, Hk⟩
    iapply (h a l (l.foldr body k))
    isplitl [Ha]; · iexact Ha
    isplitl [HI]; · iexact HI
    iintro ⟨H1, HI⟩
    iapply ih
    isplitl [Hl]; · iexact Hl
    isplitl [HI]; · iexact HI
    iintro ⟨Hl, HI⟩
    iapply Hk
    isplitl [H1 Hl]
    · isplitl [H1] <;> iassumption
    iexact HI

end Fold

/-! ## The loads of the weights -/

/-- The two slots of the double buffer, by parity. -/
def par (n : ℕ) : Fin 2 := ⟨n % 2, Nat.mod_lt _ (by decide)⟩
theorem par_two (n : ℕ) : par (n + 2) = par n := Fin.ext (by simp only [par]; omega)

theorem inbSlP (p : Fin 2) : ∀ a, (![p.val, 0, 0] : Fin 3 → ℕ) a + S1x1024x512.size a ≤ S2x1024x512.size a := by revert p; decide
theorem inbSmP (p : Fin 2) : ∀ a, (![p.val] : Fin 1 → ℕ) a + S1.size a ≤ S2.size a := by revert p; decide
abbrev rSlP (p : Fin 2) : Rect S2x1024x512 := Rect.unit (s := S2x1024x512) ![p.val, 0, 0] S1x1024x512.size (inbSlP p)
def semLdP (p : Fin 2) : DmaSem sig := ((cc0_scratch6.slice (Rect.unit (s := S2) ![p.val] S1.size (inbSmP p))).squeeze S_ squeezes_S1_S_).sem
/-- Each slot's share of the weights. -/
def hs (p : Fin 2) : PosShare TreeShare := if p = 0 then fullShare.left else fullShare.right

theorem semLoad_par (c : Fin 16) : semLoad c = semLdP (par c.val) := rfl

/-- A slot at rest. -/
def slotP (p : Fin 2) : sProp 𝕄 :=
  iprop((wL d ↦{hs p} m (wL d)) ∗ (∃ f, wbL d ↦[(rSlP p).set]{fullShare} f) ∗ semVal ((d : Thread nD τ), .dma (semLdP p)) 0)
abbrev slotFree (n : ℕ) : sProp 𝕄 := slotP m d (par n)

abbrev NL (c : Fin 16) : ℕ := (vSlot c).view.dmaCredit

/-- A slot being filled with chunk `c`. -/
def slotFly (c : Fin 16) : sProp 𝕄 :=
  iprop((∃ fd : Buf (Elt F) ((vSlot c).view.loc (d : Thread nD τ)), Flight (EC F) (d : Thread nD τ) (.dma (semLoad c)) () (NL c)
      iprop(((vSlot c).view.loc (d : Thread nD τ) ↦[(rSlP (par c.val)).set]{fullShare} ((vSlot c).view.write (Elt F) fd ((vLoad c).view.read (Elt F) (m (wL d))) Finset.univ))
        ∗ ((vLoad c).view.loc (d : Thread nD τ) ↦[(vLoad c).view.set]{hs (par c.val)} (m (wL d)))))
    ∗ (wL d ↦[Finset.univ \ (vLoad c).view.set]{hs (par c.val)} m (wL d)))

/-- A slot holding chunk `c`. -/
def slotReady (c : Fin 16) : sProp 𝕄 :=
  iprop((wL d ↦{hs (par c.val)} m (wL d))
    ∗ (∃ f : Buf (Elt F) (wbL d), ⌜(mWb.access (rSlot c)).read (Elt F) f = wv m d c⌝ ∗ wbL d ↦[(rSlP (par c.val)).set]{fullShare} f)
    ∗ semVal ((d : Thread nD τ), .dma (semLdP (par c.val))) 0)

theorem set_vSlot (c : Fin 16) : (vSlot c).view.set = (rSlP (par c.val)).set :=
  (View.set_reshape _ _).trans (View.set_slice_whole _ _)

theorem wp_pLoad (c : Fin 16) (k : PR F) (Q : PUnit → sProp 𝕄) :
    iprop(slotFree m d c.val ∗ (slotFly m d c -∗ wpd d k Q)) ⊢ wpd d (pLoad c k) Q := by
  unfold slotFree slotP pLoad
  iintro ⟨⟨HW, ⟨%fd, Hb⟩, Hv⟩, Hk⟩
  ihave HW' := (pointsTo_split_subset (Finset.subset_univ (vLoad c).view.set)).1 $$ HW
  icases HW' with ⟨HW, Hrest⟩
  iapply (Transfers.wp_dmaLocal (EC F) 𝒱₀ (d : Thread nD τ) none (src := vLoad c) (dst := vSlot c) (fs := m (wL d)) (fd := fd)
    (Sd := (rSlP (par c.val)).set) () (NL c) rfl (View.dmaCredit_pos _ (by decide)) (subset_of_eq (set_vSlot c))) $$ [HW Hb Hv]
  · isplitl [HW]; · iexact HW
    isplitl [Hb]; · iexact Hb
    iexact Hv
  iintro HF
  iapply Hk
  unfold slotFly
  isplitl [HF]
  · iexists fd; iexact HF
  iexact Hrest

theorem casts_slot : S1x1024x512.ShapeCasts S1024x512 := by decide
theorem semLoad_ne (c : Fin 16) (x : Xf) : semLoad c ≠ xRecv x := by revert c x; decide +kernel

/-- What a filled slot reads. -/
theorem read_slot (c : Fin 16) (fd : Buf (Elt F) ((vSlot c).view.loc (d : Thread nD τ))) :
    (mWb.access (rSlot c)).read (Elt F) ((vSlot c).view.write (Elt F) fd ((vLoad c).view.read (Elt F) (m (wL d))) Finset.univ) = wv m d c := by
  have h : (vLoad c).view.read (Elt F) (m (wL d)) = shapeCast S1024x512 ((mWb.access (rSlot c)).read (Elt F)
      ((vSlot c).view.write (Elt F) fd ((vLoad c).view.read (Elt F) (m (wL d))) Finset.univ)) casts_slot :=
    (View.read_write_univ (v := (vSlot c).view) fd _).symm
  refine funext fun (i : S1x1024x512.Idx) => ?_
  have hi : i = ValueIdx.ix3 (n0 := 1) (n1 := 1024) (n2 := 512) 0 (i 1) (i 2) :=
    (ValueIdx.eq_ix3 (n0 := 1) (n1 := 1024) (n2 := 512) i).trans (congrArg (fun t : Fin 1 => ValueIdx.ix3 (n0 := 1) (n1 := 1024) (n2 := 512) t (i 1) (i 2)) (Subsingleton.elim _ _))
  have h' := (congrFun h (ValueIdx.ix2 (n0 := 1024) (n1 := 512) (i 1) (i 2))).trans
    (ValueIdx.shapeCast_1ab_ab_apply (a := 1024) (b := 512) _ casts_slot (i 1) (i 2))
  refine (congrArg _ hi).trans (h'.symm.trans ?_)
  refine read_unit main_arg1 _ _ _ _ _ (ValueIdx.ix2 (n0 := 1024) (n1 := 8192) (i 1) ⟨512 * c.val + (i 2).val, by have : (i 2).val < 512 := (i 2).isLt; omega⟩) ?_
  exact Fin.forall_fin_two.2 ⟨(Nat.zero_add _).symm, rfl⟩

theorem wp_pLoadWait (c : Fin 16) (l : List Xf) (k : PR F) (Q : PUnit → sProp 𝕄) :
    iprop(slotFly m d c ∗ ow d (Ol d l) ∗ levAts L lv ∗ (iprop(slotReady m d c ∗ ow d (Ol d l)) -∗ wpd d k Q)) ⊢ wpd d (pLoadWait c k) Q := by
  unfold slotFly ow pLoadWait
  iintro ⟨⟨⟨%fd, HF⟩, Hrest⟩, ⟨%W, HO⟩, Hlev, Hk⟩
  iapply (Transfers.wp_waitLocalO (EC F) 𝒱₀ (d : Thread nD τ) none (srcw := vLoad c) (dstw := vSlot c) () (N := NL c) rfl) $$ [HF HO Hlev]
  · isplitl [HF]; · iexact HF
    isplitl [HO]; · iexact HO
    iapply (mayWait_ol d (.dma (semLoad c)) l (by rw [lv_other d _ (semLoad_ne c)]; decide)) $$ Hlev
  iintro ⟨⟨Hb, HW⟩, Hv, HO⟩
  iapply Hk
  isplitl [Hb HW Hv Hrest]
  · unfold slotReady
    isplitl [HW Hrest]
    · iapply (pointsTo_split_subset (Finset.subset_univ (vLoad c).view.set)).2
      isplitl [HW]; · iexact HW
      iexact Hrest
    isplitl [Hb]
    · iexists _
      isplitr
      · ipureintro; exact read_slot m d c fd
      iexact Hb
    iexact Hv
  iexists _; iexact HO

/-! ## The chunks -/

/-- A column of the device's half among the output's columns. -/
def myCol (d : Dev nD) (j : Fin 8192) : Fin 16384 := ⟨8192 * (d.val / 8) + j.val, by have := d8 d; omega⟩

/-- The first `n` chunks of the device's half hold its logits. -/
def OBok (n : ℕ) (f : S512x16384.Idx → Elt F .f32) : Prop :=
  ∀ (r : Fin 512) (j : Fin 8192), j.val < 512 * n →
    f (ValueIdx.ix2 (n0 := 512) (n1 := 16384) r (myCol d j)) = lgF m d (ValueIdx.ix2 (n0 := 512) (n1 := 8192) r j)
/-- The chunks of group `g` below `n` hold its quantised logits, -/
def SBok (g : Fin 4) (n : ℕ) (f : S512x8192.Idx → Elt F .i8) : Prop :=
  ∀ (r : Fin 512) (j : Fin 8192), gOff g ≤ j.val → j.val < 512 * n →
    f (ValueIdx.ix2 (n0 := 512) (n1 := 8192) r j) = qF m d (ValueIdx.ix2 (n0 := 512) (n1 := 8192) r j)
/-- and its scales. -/
def SSok (g : Fin 4) (n : ℕ) (f : S4x16x512.Idx → Elt F .f32) : Prop :=
  ∀ (c l : Fin 16), cGrp c = g → l.val = cLoc c → c.val < n → ∀ row : Fin 512,
    f (ValueIdx.ix3 (n0 := 4) (n1 := 16) (n2 := 512) g l row) = sV m d c (ValueIdx.ix3 (n0 := 1) (n1 := 1) (n2 := 512) 0 0 row)

def obAt (n : ℕ) : sProp 𝕄 := iprop(∃ f : Buf (Elt F) (obL d), ⌜OBok m d n f⌝ ∗ obL d ↦{fullShare} f)
def sbAt (g : Fin 4) (n : ℕ) : sProp 𝕄 := iprop(∃ f : Buf (Elt F) (sbL d), ⌜SBok m d g n f⌝ ∗ sbL d ↦[setGC g]{fullShare} f)
def ssAt (g : Fin 4) (n : ℕ) : sProp 𝕄 := iprop(∃ f : Buf (Elt F) (ssL d), ⌜SSok m d g n f⌝ ∗ ssL d ↦[setGS g]{fullShare} f)

theorem chunk_in (c : Fin 16) : gOff (cGrp c) ≤ 512 * c.val ∧ 512 * c.val + 512 ≤ gOff (cGrp c) + gWid (cGrp c) := by
  revert c; decide
theorem chunk_loc (c c' : Fin 16) (h : cGrp c = cGrp c') (h' : cLoc c = cLoc c') : c = c' := by revert c c'; decide
theorem cLoc_lt (c : Fin 16) : cLoc c < 16 := by revert c; decide

theorem sub_slot (c : Fin 16) : (mWb.access (rSlot c)).set ⊆ (rSlP (par c.val)).set := subset_of_eq (View.set_slice_whole _ _)

theorem sub_sb (c : Fin 16) : (mSb.access (rSb c)).set ⊆ setGC (cGrp c) := by
  rw [show (mSb.access (rSb c)).set = (rSb c).set from View.set_slice_whole _ _]
  intro i hi
  have h := (Rect.mem_set_unit.trans Fin.forall_fin_two).1 hi
  have h0 : (i 0).val < 512 := (i 0).isLt
  have h1 : 512 * c.val ≤ (i 1).val ∧ (i 1).val < 512 * c.val + 512 := h.2
  have hc := chunk_in c
  exact mem_setGC.2 (by omega)

theorem sub_ss (c : Fin 16) : (mSs.access (rSs c)).set ⊆ setGS (cGrp c) := by
  rw [show (mSs.access (rSs c)).set = (rSs c).set from View.set_slice_whole _ _]
  intro i hi
  have h := (Rect.mem_set_unit.1 hi) (0 : Fin 3)
  have h0 : (cGrp c).val ≤ (i 0).val ∧ (i 0).val < (cGrp c).val + 1 := h
  exact mem_setGS.2 (by omega)

theorem ob_step (c : Fin 16) (f : S512x16384.Idx → Elt F .f32) (h : OBok m d c.val f) :
    OBok m d (c.val + 1) ((mOb.access (rOb d c)).write (Elt F) f (lgV m d c) Finset.univ) := by
  intro r j hj
  have ho := k0_off1_eq d c
  by_cases hlt : j.val < 512 * c.val
  · refine (write_unit_out cc0_scratch0 _ _ _ _ _ _ (1 : Fin 2) (Or.inl ?_)).trans (h r j hlt)
    rw [ho]
    show 8192 * (d.val / 8) + j.val < 8192 * (d.val / 8) + 512 * c.val
    omega
  · rw [lgF_at m d c _ r ⟨j.val - 512 * c.val, by omega⟩ rfl (by show j.val = _; simp only; omega)]
    refine write_unit_in cc0_scratch0 _ _ _ _ _ _ _ ?_
    refine Fin.forall_fin_two.2 ⟨?_, ?_⟩
    · show r.val = k0_off1 d (BitVec.ofNat 32 (512 * c.val)) 0 + r.val
      rw [congrFun ho 0]; exact (Nat.zero_add _).symm
    · show 8192 * (d.val / 8) + j.val = k0_off1 d (BitVec.ofNat 32 (512 * c.val)) 1 + (j.val - 512 * c.val)
      rw [congrFun ho 1]
      show 8192 * (d.val / 8) + j.val = 8192 * (d.val / 8) + 512 * c.val + (j.val - 512 * c.val)
      omega

theorem sb_step (c : Fin 16) (f : S512x8192.Idx → Elt F .i8) (h : SBok m d (cGrp c) c.val f) :
    SBok m d (cGrp c) (c.val + 1) ((mSb.access (rSb c)).write (Elt F) f (qV m d c) Finset.univ) := by
  intro r j hg hj
  by_cases hlt : j.val < 512 * c.val
  · exact (write_unit_out cc0_scratch2 _ _ _ _ _ _ (1 : Fin 2) (Or.inl hlt)).trans (h r j hg hlt)
  · rw [qF_at m d c _ r ⟨j.val - 512 * c.val, by omega⟩ rfl (by show j.val = _; simp only; omega)]
    refine write_unit_in cc0_scratch2 _ _ _ _ _ _ _ ?_
    refine Fin.forall_fin_two.2 ⟨(Nat.zero_add _).symm, ?_⟩
    show j.val = 512 * c.val + (j.val - 512 * c.val)
    omega

theorem ss_step (c : Fin 16) (f : S4x16x512.Idx → Elt F .f32) (h : SSok m d (cGrp c) c.val f) :
    SSok m d (cGrp c) (c.val + 1) ((mSs.access (rSs c)).write (Elt F) f (sV m d c) Finset.univ) := by
  intro c' l hg hl hj row
  by_cases hlt : c'.val < c.val
  · refine (write_unit_out cc0_scratch4 _ _ _ _ _ _ (1 : Fin 3) ?_).trans (h c' l hg hl hlt row)
    show l.val < cLoc c ∨ cLoc c + 1 ≤ l.val
    have : cLoc c' ≠ cLoc c := fun e => by rw [chunk_loc c' c hg e] at hlt; omega
    omega
  · obtain rfl : c' = c := Fin.ext (by omega)
    refine write_unit_in cc0_scratch4 _ _ _ _ _ _ _ ?_
    refine Fin.forall_fin_succ.2 ⟨rfl, Fin.forall_fin_two.2 ⟨hl, (Nat.zero_add _).symm⟩⟩

theorem wp_pChunk (c : Fin 16) (k : PR F) (Q : PUnit → sProp 𝕄) :
    iprop(slotReady m d c ∗ obAt m d c.val ∗ sbAt m d (cGrp c) c.val ∗ ssAt m d (cGrp c) c.val
      ∗ (iprop(slotFree m d c.val ∗ obAt m d (c.val + 1) ∗ sbAt m d (cGrp c) (c.val + 1) ∗ ssAt m d (cGrp c) (c.val + 1)) -∗ wpd d k Q))
      ⊢ wpd d (pChunk d (xv m d) c k) Q := by
  unfold slotReady obAt sbAt ssAt pChunk
  iintro ⟨⟨HW, ⟨%fw, %hw, Hb⟩, Hv⟩, ⟨%fo, %ho, Hob⟩, ⟨%fq, %hq, Hsb⟩, ⟨%fz, %hz, Hss⟩, Hk⟩
  iapply (wp_load_rect 𝒱₀ (d : Thread nD τ) none Set.univ (m := mWb) (sub_slot c)) $$ Hb; iintro Hb
  rw [hw]
  iapply (wp_load_rect 𝒱₀ (d : Thread nD τ) none Set.univ (m := mOb) (r := rOb d c) (Finset.subset_univ _)) $$ Hob; iintro Hob
  iapply (wp_store 𝒱₀ (d : Thread nD τ) none Set.univ (m := mOb) (r := rOb d c) (Mk := Finset.univ) (Finset.subset_univ _)) $$ Hob; iintro Hob
  iapply (wp_load_rect 𝒱₀ (d : Thread nD τ) none Set.univ (m := mSb) (sub_sb c)) $$ Hsb; iintro Hsb
  iapply (wp_store 𝒱₀ (d : Thread nD τ) none Set.univ (m := mSb) (r := rSb c) (Mk := Finset.univ) (sub_sb c)) $$ Hsb; iintro Hsb
  iapply (wp_load_rect 𝒱₀ (d : Thread nD τ) none Set.univ (m := mSs) (sub_ss c)) $$ Hss; iintro Hss
  iapply (wp_store 𝒱₀ (d : Thread nD τ) none Set.univ (m := mSs) (r := rSs c) (Mk := Finset.univ) (sub_ss c)) $$ Hss; iintro Hss
  iapply Hk
  isplitl [HW Hb Hv]
  · unfold slotFree slotP
    isplitl [HW]; · iexact HW
    isplitl [Hb]; · iexists fw; iexact Hb
    iexact Hv
  isplitl [Hob]
  · iexists _; isplitr
    · ipureintro; exact ob_step m d c fo ho
    iexact Hob
  isplitl [Hsb]
  · iexists _; isplitr
    · ipureintro; exact sb_step m d c fq hq
    iexact Hsb
  iexists _; isplitr
  · ipureintro; exact ss_step m d c fz hz
  iexact Hss

end Cert.KernelIdeal.Exchange

end
-- ==== Proof.Ideal.Rows.lean ====
/- Running the stripes of the body and the copies out. -/
module

public import proofs.«01_k».proof.Proof.Ideal.Local

@[expose] public section

noncomputable section

namespace Cert.KernelIdeal.Exchange

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

variable (m : Mem F) (d : Dev nD)

/-! ## The pieces of the peer's half -/

theorem inbRow (r : Fin 8) : ∀ a, (![64 * r.val, 0] : Fin 2 → ℕ) a + (![64, 8192] : Fin 2 → ℕ) a ≤ S512x8192.size a := by
  revert r; decide
/-- A block of 64 rows. -/
abbrev setRow (r : Fin 8) : Finset S512x8192.Idx := set2 (64 * r.val) 0 64 8192 (inbRow r)

theorem setRow_groups (r : Fin 8) : (Finset.univ : Finset (Fin 4)).biUnion (fun g => setG g r) = setRow r := by
  refine Finset.ext fun i => ?_
  have h1 : (i 1).val < 8192 := (i 1).isLt
  rw [Finset.mem_biUnion]
  constructor
  · rintro ⟨g, -, h⟩; exact mem_set2.2 ⟨(mem_setG.1 h).1, by omega⟩
  · intro h
    obtain ⟨g, hg⟩ := gOf (i 1).val h1
    exact ⟨g, Finset.mem_univ _, mem_setG.2 ⟨(mem_set2.1 h).1, hg⟩⟩

/-- A block of rows the peer has sent, and all its scales. -/
def rbRow (r : Fin 8) : sProp 𝕄 := rbL d ↦[setRow r]{fullShare} (qF m (peer d))
def rsAll : sProp 𝕄 := iprop(∃ f : Buf (Elt F) (rsL d), ⌜∀ g, SOK m (peer d) g f⌝ ∗ rsL d ↦{fullShare} f)

theorem sub_rb (r : Fin 8) (i : Fin 2) (c : Fin 16) : (mRb.access (rRb (stripeOf r i) c)).set ⊆ setRow r := by
  rw [show (mRb.access (rRb (stripeOf r i) c)).set = (rRb (stripeOf r i) c).set from View.set_slice_whole _ _]
  intro x hx
  have h := (Rect.mem_set_unit.1 hx) (0 : Fin 2)
  have h0 : 32 * (2 * r.val + i.val) ≤ (x 0).val ∧ (x 0).val < 32 * (2 * r.val + i.val) + 32 := h
  have h1 : (x 1).val < 8192 := (x 1).isLt
  exact mem_set2.2 (by omega)

theorem read_rb (e : Dev nD) (s c : Fin 16) : (mRb.access (rRb s c)).read (Elt F) (qF m e) = qP m e s c := by
  refine funext fun (i : S32x512.Idx) => ?_
  refine (read_unit cc0_scratch3 _ _ _ (qF m e) i (ValueIdx.ix2 (n0 := 512) (n1 := 8192) (srow s (i 0)) ⟨512 * c.val + (i 1).val, ?_⟩) ?_).trans ?_
  · have : (i 1).val < 512 := (i 1).isLt; omega
  · exact Fin.forall_fin_two.2 ⟨rfl, rfl⟩
  · exact qF_at m e c _ (srow s (i 0)) (i 1) rfl rfl

theorem read_rs (e : Dev nD) (s c : Fin 16) (f : S4x16x512.Idx → Elt F .f32) (h : SOK m e (cGrp c) f) :
    (mRs.access (rRs s c)).read (Elt F) f = sP m e s c := by
  refine funext fun (i : S1x1x32.Idx) => ?_
  refine (read_unit cc0_scratch5 _ _ _ f i (ValueIdx.ix3 (n0 := 4) (n1 := 16) (n2 := 512) (cGrp c) ⟨cLoc c, cLoc_lt c⟩ (srow s (i 2))) ?_).trans
    (h c _ rfl rfl (srow s (i 2)))
  have h0 : (i 0).val < 1 := (i 0).isLt
  have h1 : (i 1).val < 1 := (i 1).isLt
  refine Fin.forall_fin_succ.2 ⟨?_, Fin.forall_fin_two.2 ⟨?_, rfl⟩⟩
  · show (cGrp c).val = (cGrp c).val + (i 0).val; omega
  · show cLoc c = cLoc c + (i 1).val; omega

theorem wp_pPiece (r : Fin 8) (i : Fin 2) (c : Fin 16) (k : FVec F S32x512 .f32 → PR F) (Q : PUnit → sProp 𝕄) :
    iprop(rbRow m d r ∗ rsAll m d ∗ (iprop(rbRow m d r ∗ rsAll m d) -∗ wpd d (k (dqP m (peer d) (stripeOf r i) c)) Q))
      ⊢ wpd d (pPiece (stripeOf r i) c k) Q := by
  unfold rbRow rsAll pPiece
  iintro ⟨Hb, ⟨%f, %hf, Hs⟩, Hk⟩
  iapply (wp_load_rect 𝒱₀ (d : Thread nD τ) none Set.univ (m := mRb) (r := rRb (stripeOf r i) c) (sub_rb r i c)) $$ Hb; iintro Hb
  iapply (wp_load_rect 𝒱₀ (d : Thread nD τ) none Set.univ (m := mRs) (r := rRs (stripeOf r i) c) (Finset.subset_univ _)) $$ Hs; iintro Hs
  rw [read_rb, read_rs m (peer d) (stripeOf r i) c f (hf _)]
  iapply Hk
  isplitl [Hb]; · iexact Hb
  iexists f; isplitr
  · ipureintro; exact hf
  iexact Hs

theorem all16 {α : Type} (f : Fin 16 → α) :
    (![f 0, f 1, f 2, f 3, f 4, f 5, f 6, f 7, f 8, f 9, f 10, f 11, f 12, f 13, f 14, f 15] : Fin 16 → α) = f := by
  funext c; fin_cases c <;> rfl

theorem wp_pPieces (r : Fin 8) (i : Fin 2) (k : (Fin 16 → FVec F S32x512 .f32) → PR F) (Q : PUnit → sProp 𝕄) :
    iprop(rbRow m d r ∗ rsAll m d ∗ (iprop(rbRow m d r ∗ rsAll m d) -∗ wpd d (k (dqP m (peer d) (stripeOf r i))) Q))
      ⊢ wpd d (pPieces (stripeOf r i) k) Q := by
  unfold pPieces
  iintro ⟨Hb, Hs, Hk⟩
  iterate 16
    iapply (wp_pPiece m d r i)
    isplitl [Hb]; · iexact Hb
    isplitl [Hs]; · iexact Hs
    iintro ⟨Hb, Hs⟩
  rw [all16]
  iapply Hk
  isplitl [Hb] <;> iassumption

/-! ## A stripe -/

/-- The device's half of stripe `s` holds its logits. -/
def SRok (s : Fin 16) (f : S512x16384.Idx → Elt F .f32) : Prop :=
  ∀ (r : Fin 32) (j : Fin 8192), f (ValueIdx.ix2 (n0 := 512) (n1 := 16384) (srow s r) (myCol d j))
    = lgF m d (ValueIdx.ix2 (n0 := 512) (n1 := 8192) (srow s r) j)

def obStr (s : Fin 16) : sProp 𝕄 := iprop(∃ f : Buf (Elt F) (obL d), ⌜SRok m d s f⌝ ∗ obL d ↦[setStr s]{fullShare} f)
def obDone (s : Fin 16) : sProp 𝕄 := obL d ↦[setStr s]{fullShare} (outF m d)

theorem sub_my (s : Fin 16) : (mOb.access (rMy d s)).set ⊆ setStr s := by
  rw [show (mOb.access (rMy d s)).set = (rMy d s).set from View.set_slice_whole _ _]
  intro x hx
  have h := (Rect.mem_set_unit.1 hx) (0 : Fin 2)
  rw [congrFun (offMy_eq d s) 0] at h
  exact mem_setStr.2 h
theorem sub_nb (s : Fin 16) : (mOb.access (rNb d s)).set ⊆ setStr s := by
  rw [show (mOb.access (rNb d s)).set = (rNb d s).set from View.set_slice_whole _ _]
  intro x hx
  have h := (Rect.mem_set_unit.1 hx) (0 : Fin 2)
  rw [congrFun (offNb_eq d s) 0] at h
  exact mem_setStr.2 h

theorem read_my (s : Fin 16) (f : S512x16384.Idx → Elt F .f32) (h : SRok m d s f) :
    (mOb.access (rMy d s)).read (Elt F) f = lgS m d s := by
  refine funext fun (i : S32x8192.Idx) => ?_
  refine (read_unit cc0_scratch0 _ _ _ f i (ValueIdx.ix2 (n0 := 512) (n1 := 16384) (srow s (i 0)) (myCol d (i 1))) ?_).trans (h (i 0) (i 1))
  refine Fin.forall_fin_two.2 ⟨?_, ?_⟩
  · show 32 * s.val + (i 0).val = offMy d s 0 + (i 0).val; rw [congrFun (offMy_eq d s) 0]; rfl
  · show 8192 * (d.val / 8) + (i 1).val = offMy d s 1 + (i 1).val; rw [congrFun (offMy_eq d s) 1]; rfl

theorem stripe_keep (s : Fin 16) (f : S512x16384.Idx → Elt F .f32) (v : FVec F S32x8192 .f32) (i : S512x16384.Idx)
    (h1 : (i 1).val / 8192 = d.val / 8) :
    (mOb.access (rNb d s)).write (Elt F) f v Finset.univ i = f i := by
  have hd := d8 d
  have ha : (i 1).val < offNb d s 1 ∨ offNb d s 1 + S32x8192.size 1 ≤ (i 1).val := by
    rw [congrFun (offNb_eq d s) 1]
    show (i 1).val < 8192 - 8192 * (d.val / 8) ∨ 8192 - 8192 * (d.val / 8) + 8192 ≤ (i 1).val
    omega
  exact write_unit_out cc0_scratch0 (offNb d s) S32x8192.size (inbNb d s) f v i (1 : Fin 2) ha

theorem stripe_put (s : Fin 16) (f : S512x16384.Idx → Elt F .f32) (u : FVec F S32x8192 .f32) (i : S512x16384.Idx) (x : S32x8192.Idx)
    (h0 : (i 0).val = 32 * s.val + (x 0).val) (h1 : (i 1).val = 8192 * (d.val / 8) + (x 1).val) :
    (mOb.access (rMy d s)).write (Elt F) f u Finset.univ i = u x := by
  refine write_unit_in cc0_scratch0 (offMy d s) S32x8192.size (inbMy d s) f u x i ?_
  refine Fin.forall_fin_two.2 ⟨?_, ?_⟩
  · rw [congrFun (offMy_eq d s) 0]; exact h0
  · rw [congrFun (offMy_eq d s) 1]; exact h1

theorem stripe_my (s : Fin 16) (f : S512x16384.Idx → Elt F .f32) (u v : FVec F S32x8192 .f32) (i : S512x16384.Idx) (x : S32x8192.Idx)
    (h0 : (i 0).val = 32 * s.val + (x 0).val) (h1 : (i 1).val = 8192 * (d.val / 8) + (x 1).val) :
    (mOb.access (rNb d s)).write (Elt F) ((mOb.access (rMy d s)).write (Elt F) f u Finset.univ) v Finset.univ i = u x := by
  have hk : (x 1).val < 8192 := (x 1).isLt
  exact (stripe_keep d s _ v i (by omega)).trans (stripe_put d s f u i x h0 h1)

theorem stripe_nb (s : Fin 16) (f : S512x16384.Idx → Elt F .f32) (v : FVec F S32x8192 .f32) (i : S512x16384.Idx) (x : S32x8192.Idx)
    (h0 : (i 0).val = 32 * s.val + (x 0).val) (h1 : (i 1).val = 8192 - 8192 * (d.val / 8) + (x 1).val) :
    (mOb.access (rNb d s)).write (Elt F) f v Finset.univ i = v x := by
  refine write_unit_in cc0_scratch0 (offNb d s) S32x8192.size (inbNb d s) f v x i ?_
  refine Fin.forall_fin_two.2 ⟨?_, ?_⟩
  · rw [congrFun (offNb_eq d s) 0]; exact h0
  · rw [congrFun (offNb_eq d s) 1]; exact h1

theorem stripe_out (s : Fin 16) (f : S512x16384.Idx → Elt F .f32) : ∀ i ∈ setStr s,
    (mOb.access (rNb d s)).write (Elt F) ((mOb.access (rMy d s)).write (Elt F) f (outMy m d s) Finset.univ) (outNb m d s) Finset.univ i = outF m d i := by
  intro i hi
  have hi := mem_setStr.1 hi
  have h1 : (i 1).val < 16384 := (i 1).isLt
  have hd := d8 d
  have h0 : (i 0).val = 32 * s.val + ((i 0).val - 32 * s.val) := by omega
  by_cases hm : (i 1).val / 8192 = d.val / 8
  · have hc : (i 1).val = 8192 * (d.val / 8) + ((i 1).val - 8192 * (d.val / 8)) := by omega
    exact (stripe_my d s f _ _ i (ValueIdx.ix2 (n0 := 32) (n1 := 8192) ⟨(i 0).val - 32 * s.val, by omega⟩ ⟨(i 1).val - 8192 * (d.val / 8), by omega⟩) h0 hc).trans
      (outF_my m d s i _ _ h0 hc).symm
  · have hc : (i 1).val = 8192 - 8192 * (d.val / 8) + ((i 1).val - (8192 - 8192 * (d.val / 8))) := by omega
    exact (stripe_nb d s _ _ i (ValueIdx.ix2 (n0 := 32) (n1 := 8192) ⟨(i 0).val - 32 * s.val, by omega⟩ ⟨(i 1).val - (8192 - 8192 * (d.val / 8)), by omega⟩) h0 hc).trans
      (outF_nb m d s i _ _ h0 hc).symm

theorem wp_loadMy (s : Fin 16) (f : S512x16384.Idx → Elt F .f32) (k : Vec F S32x8192 .f32 → PR F) (Q : PUnit → sProp 𝕄) :
    iprop((obL d ↦[setStr s]{fullShare} f) ∗ ((obL d ↦[setStr s]{fullShare} f) -∗ wpd d (k ((mOb.access (rMy d s)).read (Elt F) f)) Q))
      ⊢ wpd d (.op (.load mOb (rMy d s).toLoadRect (View.loadsAt_vmem h_S32x8192)) k) Q := by
  iintro ⟨Ho, Hk⟩
  iapply (wp_load_rect 𝒱₀ (d : Thread nD τ) none Set.univ (m := mOb) (r := rMy d s) (sub_my d s)) $$ Ho; iintro Ho
  iapply Hk; iexact Ho

theorem wp_storeMy (s : Fin 16) (f : S512x16384.Idx → Elt F .f32) (u : FVec F S32x8192 .f32) (k : PR F) (Q : PUnit → sProp 𝕄) :
    iprop((obL d ↦[setStr s]{fullShare} f) ∗ ((obL d ↦[setStr s]{fullShare} ((mOb.access (rMy d s)).write (Elt F) f u Finset.univ)) -∗ wpd d k Q))
      ⊢ wpd d (.op (.store mOb (rMy d s) u Finset.univ (View.stores_vmem_bits_univ h_S32x8192 rfl) (.inl rfl)) fun _ => k) Q := by
  iintro ⟨Ho, Hk⟩
  iapply (wp_store 𝒱₀ (d : Thread nD τ) none Set.univ (m := mOb) (r := rMy d s) (Mk := Finset.univ) (sub_my d s)) $$ Ho; iintro Ho
  iapply Hk; iexact Ho

theorem wp_loadNb (s : Fin 16) (f : S512x16384.Idx → Elt F .f32) (k : Vec F S32x8192 .f32 → PR F) (Q : PUnit → sProp 𝕄) :
    iprop((obL d ↦[setStr s]{fullShare} f) ∗ ((obL d ↦[setStr s]{fullShare} f) -∗ wpd d (k ((mOb.access (rNb d s)).read (Elt F) f)) Q))
      ⊢ wpd d (.op (.load mOb (rNb d s).toLoadRect (View.loadsAt_vmem h_S32x8192)) k) Q := by
  iintro ⟨Ho, Hk⟩
  iapply (wp_load_rect 𝒱₀ (d : Thread nD τ) none Set.univ (m := mOb) (r := rNb d s) (sub_nb d s)) $$ Ho; iintro Ho
  iapply Hk; iexact Ho

theorem wp_storeNb (s : Fin 16) (f : S512x16384.Idx → Elt F .f32) (u : FVec F S32x8192 .f32) (k : PR F) (Q : PUnit → sProp 𝕄) :
    iprop((obL d ↦[setStr s]{fullShare} f) ∗ ((obL d ↦[setStr s]{fullShare} ((mOb.access (rNb d s)).write (Elt F) f u Finset.univ)) -∗ wpd d k Q))
      ⊢ wpd d (.op (.store mOb (rNb d s) u Finset.univ (View.stores_vmem_bits_univ h_S32x8192 rfl) (.inl rfl)) fun _ => k) Q := by
  iintro ⟨Ho, Hk⟩
  iapply (wp_store 𝒱₀ (d : Thread nD τ) none Set.univ (m := mOb) (r := rNb d s) (Mk := Finset.univ) (sub_nb d s)) $$ Ho; iintro Ho
  iapply Hk; iexact Ho

theorem wp_pStripe (r : Fin 8) (i : Fin 2) (k : PR F) (Q : PUnit → sProp 𝕄) :
    iprop(obStr m d (stripeOf r i) ∗ rbRow m d r ∗ rsAll m d ∗ (iprop(obDone m d (stripeOf r i) ∗ rbRow m d r ∗ rsAll m d) -∗ wpd d k Q))
      ⊢ wpd d (pStripe d (stripeOf r i) k) Q := by
  unfold obStr obDone pStripe
  iintro ⟨⟨%f, %hf, Ho⟩, Hb, Hs, Hk⟩
  iapply (wp_loadMy d (stripeOf r i) f)
  isplitl [Ho]; · iexact Ho
  iintro Ho
  rw [read_my m d _ f hf]
  iapply (wp_pPieces m d r i)
  isplitl [Hb]; · iexact Hb
  isplitl [Hs]; · iexact Hs
  iintro ⟨Hb, Hs⟩
  iapply (wp_loadMy d (stripeOf r i) f)
  isplitl [Ho]; · iexact Ho
  iintro Ho
  iapply (wp_storeMy d (stripeOf r i) f (outMy m d (stripeOf r i)))
  isplitl [Ho]; · iexact Ho
  iintro Ho
  iapply (wp_loadNb d (stripeOf r i) _)
  isplitl [Ho]; · iexact Ho
  iintro Ho
  iapply (wp_storeNb d (stripeOf r i) _ (outNb m d (stripeOf r i)))
  isplitl [Ho]; · iexact Ho
  iintro Ho
  iapply Hk
  isplitl [Ho]
  · iapply (Entails.of_eq (pointsTo_congr (stripe_out m d (stripeOf r i) f))) $$ Ho
  isplitl [Hb] <;> iassumption

/-! ## The copies out -/

abbrev NO (r : Fin 8) : ℕ := (vO r).view.dmaCredit

/-- A row block on its way out; -/
def outFly (r : Fin 8) : sProp 𝕄 :=
  iprop(∃ fd : Buf (Elt F) ((vO r).view.loc (d : Thread nD τ)), Flight (EC F) (d : Thread nD τ) (.dma (semOut r)) () (NO r)
      iprop(((vO r).view.loc (d : Thread nD τ) ↦[setOut r]{fullShare} ((vO r).view.write (Elt F) fd ((vOb r).view.read (Elt F) (outF m d)) Finset.univ))
        ∗ ((vOb r).view.loc (d : Thread nD τ) ↦[(vOb r).view.set]{fullShare} (outF m d))))
/-- where it goes, and the semaphore it uses; -/
def outSlot (r : Fin 8) : sProp 𝕄 := iprop((∃ f : Buf (Elt F) (oL d), oL d ↦[setOut r]{fullShare} f) ∗ semVal ((d : Thread nD τ), .dma (semOut r)) 0)
/-- and there. -/
def outHome (r : Fin 8) : sProp 𝕄 :=
  iprop((oL d ↦[setOut r]{fullShare} (outF m d)) ∗ (obL d ↦[setOut r]{fullShare} (outF m d)) ∗ semVal ((d : Thread nD τ), .dma (semOut r)) 0)

theorem set_vOb (r : Fin 8) : (vOb r).view.set = setOut r := View.set_slice_whole _ _
theorem set_vO (r : Fin 8) : (vO r).view.set = setOut r := View.set_slice_whole _ _

theorem two_stripes (r : Fin 8) : iprop(obDone m d (stripeOf r 0) ∗ obDone m d (stripeOf r 1)) ⊢ obL d ↦[setOut r]{fullShare} (outF m d) := by
  unfold obDone
  rw [← setStr_out r]
  exact (pointsTo_union (setStr_disj _ _ (stripe_two r))).2

theorem wp_pOut (r : Fin 8) (k : PR F) (Q : PUnit → sProp 𝕄) :
    iprop(obDone m d (stripeOf r 0) ∗ obDone m d (stripeOf r 1) ∗ outSlot d r ∗ (outFly m d r -∗ wpd d k Q)) ⊢ wpd d (pOut r k) Q := by
  unfold outSlot pOut
  iintro ⟨H0, H1, ⟨⟨%fd, Hd⟩, Hv⟩, Hk⟩
  ihave Hs := (two_stripes m d r) $$ [H0 H1]
  · isplitl [H0] <;> iassumption
  ihave Hs := (Entails.of_eq (congrArg (fun S => (obL d ↦[S]{fullShare} (outF m d) : sProp 𝕄)) (set_vOb r).symm)) $$ Hs
  iapply (Transfers.wp_dmaLocal (EC F) 𝒱₀ (d : Thread nD τ) none (src := vOb r) (dst := vO r) (fs := outF m d) (fd := fd)
    (Sd := setOut r) () (NO r) rfl (View.dmaCredit_pos _ (by decide)) (subset_of_eq (set_vO r))) $$ [Hs Hd Hv]
  · isplitl [Hs]; · iexact Hs
    isplitl [Hd]; · iexact Hd
    iexact Hv
  iintro HF
  iapply Hk
  unfold outFly
  iexists fd; iexact HF

theorem out_landed (r : Fin 8) (fd : S512x16384.Idx → Elt F .f32) : ∀ i ∈ setOut r,
    (vO r).view.write (Elt F) fd ((vOb r).view.read (Elt F) (outF m d)) Finset.univ i = outF m d i := by
  rw [← set_vO r]
  exact write_agree (vO r).view fd _ (outF m d) fun x => rfl

theorem wp_pOutWait (r : Fin 8) (k : PR F) (Q : PUnit → sProp 𝕄) :
    iprop(outFly m d r ∗ ow d 0 ∗ (iprop(outHome m d r ∗ ow d 0) -∗ wpd d k Q)) ⊢ wpd d (pOutWait r k) Q := by
  unfold outFly ow pOutWait
  iintro ⟨⟨%fd, HF⟩, ⟨%W, HO⟩, Hk⟩
  iapply (Transfers.wp_waitLocal (EC F) 𝒱₀ (d : Thread nD τ) none (srcw := vOb r) (dstw := vO r) () (N := NO r) rfl) $$ [HF HO]
  · isplitl [HF]; · iexact HF
    iexact HO
  iintro ⟨⟨Hd, Hs⟩, Hv, HO⟩
  iapply Hk
  isplitl [Hd Hs Hv]
  · unfold outHome
    isplitl [Hd]
    · iapply (Entails.of_eq (pointsTo_congr (out_landed m d r fd))) $$ Hd
    isplitl [Hs]
    · iapply (Entails.of_eq (congrArg (fun S => (obL d ↦[S]{fullShare} (outF m d) : sProp 𝕄)) (set_vOb r))) $$ Hs
    iexact Hv
  iexists _; iexact HO

end Cert.KernelIdeal.Exchange

end
-- ==== Proof.Ideal.Comm.lean ====
/- Running the sends and the waits of the exchange. -/
module

public import proofs.«01_k».proof.Proof.Ideal.Rows

@[expose] public section

noncomputable section

namespace Cert.KernelIdeal.Exchange

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

variable (m : Mem F) (K : Dev nD × CK → ℕ) (d : Dev nD)

/-! ## What every device knows -/

/-- A cell's invariant, and that it is past the start. -/
def known (ck : Dev nD × CK) : sProp 𝕄 := iprop(cellInv (ER F) (Rd m) (K ck) (kcell ck) ∗ reached (ER F) (kcell ck) 0)
instance known_persistent (ck : Dev nD × CK) : BI.Persistent (known (F := F) m K ck) := by unfold known; infer_instance
def shared : sProp 𝕄 := bigSep Finset.univ (known m K)
instance shared_persistent : BI.Persistent (shared (F := F) m K) := by unfold shared; infer_instance
theorem shared_get (ck : Dev nD × CK) : shared m K ⊢ known m K ck := by
  classical exact bigSep_elim (Finset.mem_univ ck)

/-! ## Waiting on a cell -/

/-- What a wait on a cell needs, -/
def due (k : CK) : sProp 𝕄 := iprop(cred (tallyAt (kcell (d, k)) () (amt k)) ∗ atPos (ER F) (kcell (d, k)) 0 ∅ 0)
/-- and what it gives. -/
def got (k : CK) : sProp 𝕄 := iprop(pay m d k ∗ semVal (kcell (d, k)) 0)

theorem wp_cellWait (k : CK) {w : TpuEff nD τ sig (Elt F) Λ₀ .tc PUnit} {k' : ℕ}
    (hw : ∀ Kt : PUnit → sProp 𝕄, wpE (defs₀ (F := F)) 𝒱₀ (d : Thread nD τ) none Set.univ w Kt = waitSpec (d : Thread nD τ) Set.univ (csem k) k' Kt)
    (hk : k' = amt k) (O : CellTallies nD τ sig Unit) (rest : PUnit → PR F) (Q : PUnit → sProp 𝕄) :
    iprop(shared m K ∗ due d k ∗ ow d O ∗ MayWait (d : Thread nD τ) (csem k) () O ∗ (iprop(got m d k ∗ ow d O) -∗ wpd d (rest ⟨⟩) Q))
      ⊢ wpd d (.op w rest) Q := by
  unfold due got ow
  iintro ⟨#Hsh, ⟨Hc, Hat⟩, ⟨%W, HO⟩, Hmay, Hk⟩
  ihave #Hkn := (shared_get m K (d, k)) $$ Hsh
  unfold known
  icases Hkn with ⟨#HI, #Hr⟩
  iapply (Rounds.wp_wait_rest_token 𝒱₀ (ER F) (Rd m) (d : Thread nD τ) none (κ := K (d, k)) hw (Set.mem_univ _) () (O := O) (W := W)
      (R := 0) (m := 0) (T := ∅) (by rw [Nat.zero_add, hk]; exact (expect_cell m d k).symm)) $$ [Hc HO Hmay Hat]
  · isplitr; · iexact HI
    isplitl [Hc]; · subst hk; iexact Hc
    isplitl [HO]; · iexact HO
    isplitl [Hmay]; · iexact Hmay
    iexact Hat
  iintro ⟨HO, Hat, -, Hpay⟩
  ihave Hp := (Entails.of_eq (rest_cell m d k)) $$ Hpay
  imod (Rounds.cell_close (ER F) (Rd m) (Set.mem_univ (K (d, k))) (fun h => h) (R := 0 + 1) (duties_later m (kcell (d, k)))) $$ [Hat] with Hz
  · isplitr; · iexact HI
    iexact Hat
  iapply Hk
  isplitl [Hp Hz]
  · isplitl [Hp] <;> iassumption
  iexists _; iexact HO

/-- The same, when nothing is owed any more. -/
theorem wp_cellWait0 (k : CK) {w : TpuEff nD τ sig (Elt F) Λ₀ .tc PUnit} {k' : ℕ}
    (hw : ∀ Kt : PUnit → sProp 𝕄, wpE (defs₀ (F := F)) 𝒱₀ (d : Thread nD τ) none Set.univ w Kt = waitSpec (d : Thread nD τ) Set.univ (csem k) k' Kt)
    (hk : k' = amt k) (rest : PUnit → PR F) (Q : PUnit → sProp 𝕄) :
    iprop(due d k ∗ iprop(shared m K ∗ ow d 0) ∗ (iprop(got m d k ∗ shared m K ∗ ow d 0) -∗ wpd d (rest ⟨⟩) Q)) ⊢ wpd d (.op w rest) Q := by
  iintro ⟨Hdue, ⟨#Hsh, HO⟩, Hk⟩
  iapply (wp_cellWait m K d k hw hk 0)
  isplitr; · iexact Hsh
  isplitl [Hdue]; · iexact Hdue
  isplitl [HO]; · iexact HO
  isplitr
  · rw [MayWait_zero]; iempintro
  iintro ⟨Hg, HO⟩
  iapply Hk
  isplitl [Hg]; · iexact Hg
  isplitr; · iexact Hsh
  iexact HO

abbrev kS (x : Xf) : CK := .inr (.inl x)
abbrev kR (x : Xf) : CK := .inr (.inr x)

abbrev calm : sProp 𝕄 := iprop(shared m K ∗ ow d 0)

theorem N_q (g : Fin 4) (r : Fin 8) : (vRb g r).view.dmaCredit = N (.inr (g, r)) := rfl
theorem N_q' (g : Fin 4) (r : Fin 8) : (vSb g r).view.dmaCredit = N (.inr (g, r)) := rfl
theorem N_s (g : Fin 4) : (vRs g).view.dmaCredit = N (.inl g) := rfl
theorem N_s' (g : Fin 4) : (vSs g).view.dmaCredit = N (.inl g) := rfl

theorem wp_pRecvS (g : Fin 4) (k : PR F) (Q : PUnit → sProp 𝕄) :
    iprop(due d (kR (.inl g)) ∗ calm m K d ∗ (iprop(got m d (kR (.inl g)) ∗ calm m K d) -∗ wpd d k Q)) ⊢ wpd d (pRecvS g k) Q :=
  wp_cellWait0 m K d (kR (.inl g)) (wpE_waitDma2_eq 𝒱₀ (d : Thread nD τ) none Set.univ) (N_s g) (fun _ => k) Q
theorem wp_pRecv (r : Fin 8) (g : Fin 4) (k : PR F) (Q : PUnit → sProp 𝕄) :
    iprop(due d (kR (.inr (g, r))) ∗ calm m K d ∗ (iprop(got m d (kR (.inr (g, r))) ∗ calm m K d) -∗ wpd d k Q)) ⊢ wpd d (pRecv r g k) Q :=
  wp_cellWait0 m K d (kR (.inr (g, r))) (wpE_waitDma2_eq 𝒱₀ (d : Thread nD τ) none Set.univ) (N_q g r) (fun _ => k) Q
theorem wp_pSentS (g : Fin 4) (k : PR F) (Q : PUnit → sProp 𝕄) :
    iprop(due d (kS (.inl g)) ∗ calm m K d ∗ (iprop(got m d (kS (.inl g)) ∗ calm m K d) -∗ wpd d k Q)) ⊢ wpd d (pSentS g k) Q :=
  wp_cellWait0 m K d (kS (.inl g)) (wpE_waitDma2_eq 𝒱₀ (d : Thread nD τ) none Set.univ) (N_s' g) (fun _ => k) Q
theorem wp_pSent (g : Fin 4) (r : Fin 8) (k : PR F) (Q : PUnit → sProp 𝕄) :
    iprop(due d (kS (.inr (g, r))) ∗ calm m K d ∗ (iprop(got m d (kS (.inr (g, r))) ∗ calm m K d) -∗ wpd d k Q)) ⊢ wpd d (pSent g r k) Q :=
  wp_cellWait0 m K d (kS (.inr (g, r))) (wpE_waitDma2_eq 𝒱₀ (d : Thread nD τ) none Set.univ) (N_q' g r) (fun _ => k) Q

/-! ## Sending -/

/-- Where a transfer lands, -/
def land : Xf → sProp 𝕄
  | .inl g => iprop(∃ f, rsL (peer d) ↦[setGS g]{fullShare} f)
  | .inr (g, r) => iprop(∃ f, rbL (peer d) ↦[setG g r]{fullShare} f)
/-- what it reads, -/
def fromBuf : Xf → sProp 𝕄
  | .inl g => iprop(∃ f, ⌜SOK m d g f⌝ ∗ ssL d ↦[setGS g]{fullShare} f)
  | .inr (g, r) => sbL d ↦[setG g r]{fullShare} (qF m d)
/-- and the duties it does. -/
def toks (x : Xf) : sProp 𝕄 := iprop(dutyTok (ER F) (sendCell d x) 0 () ∗ dutyTok (ER F) (recvCell (peer d) x) 0 ())

theorem set_vSb (g : Fin 4) (r : Fin 8) : (vSb g r).view.set = setG g r := View.set_slice_whole _ _
theorem set_vRb (g : Fin 4) (r : Fin 8) : (vRb g r).view.set = setG g r := View.set_slice_whole _ _
theorem set_vSs (g : Fin 4) : (vSs g).view.set = setGS g := (View.set_reshape _ _).trans (View.set_slice_whole _ _)
theorem set_vRs (g : Fin 4) : (vRs g).view.set = setGS g := (View.set_reshape _ _).trans (View.set_slice_whole _ _)

theorem q_landed (g : Fin 4) (r : Fin 8) (fd : S512x8192.Idx → Elt F .i8) : ∀ i ∈ setG g r,
    (vRb g r).view.write (Elt F) fd ((vSb g r).view.read (Elt F) (qF m d)) Finset.univ i = qF m d i := by
  rw [← set_vRb g r]
  exact write_agree (vRb g r).view fd _ (qF m d) fun x => rfl
theorem s_landed (g : Fin 4) (fd fs : S4x16x512.Idx → Elt F .f32) : ∀ i ∈ setGS g,
    (vRs g).view.write (Elt F) fd ((vSs g).view.read (Elt F) fs) Finset.univ i = fs i := by
  rw [← set_vRs g]
  exact write_agree (vRs g).view fd _ fs fun x => rfl

theorem out_q (g : Fin 4) (r : Fin 8) :
    ((vSb g r).view.loc (d : Thread nD τ) ↦[(vSb g r).view.set]{fullShare} (qF m d)) ⊢ (Rd m).payload (kcell (d, kS (.inr (g, r)))) 0 () := by
  rw [payload_cell, set_vSb]
  show _ ⊢ iprop(∃ f, sbL d ↦[setG g r]{fullShare} f)
  iintro H; iexists _; iexact H
theorem in_q (g : Fin 4) (r : Fin 8) (fd : Buf (Elt F) ((vRb g r).view.loc (peer d : Thread nD τ))) :
    ((vRb g r).view.loc (peer d : Thread nD τ) ↦[(vRb g r).view.set]{fullShare}
      ((vRb g r).view.write (Elt F) fd ((vSb g r).view.read (Elt F) (qF m d)) Finset.univ)) ⊢ (Rd m).payload (kcell (peer d, kR (.inr (g, r)))) 0 () := by
  rw [payload_cell, set_vRb]
  show _ ⊢ rbL (peer d) ↦[setG g r]{fullShare} (qF m (peer (peer d)))
  rw [peer_peer]
  exact Entails.of_eq (pointsTo_congr (q_landed m d g r fd))
theorem out_s (g : Fin 4) (fs : Buf (Elt F) (ssL d)) :
    ((vSs g).view.loc (d : Thread nD τ) ↦[(vSs g).view.set]{fullShare} fs) ⊢ (Rd m).payload (kcell (d, kS (.inl g))) 0 () := by
  rw [payload_cell, set_vSs]
  show _ ⊢ iprop(∃ f, ssL d ↦[setGS g]{fullShare} f)
  iintro H; iexists _; iexact H
theorem in_s (g : Fin 4) (fs : Buf (Elt F) (ssL d)) (hfs : SOK m d g fs) (fd : Buf (Elt F) ((vRs g).view.loc (peer d : Thread nD τ))) :
    ((vRs g).view.loc (peer d : Thread nD τ) ↦[(vRs g).view.set]{fullShare}
      ((vRs g).view.write (Elt F) fd ((vSs g).view.read (Elt F) fs) Finset.univ)) ⊢ (Rd m).payload (kcell (peer d, kR (.inl g))) 0 () := by
  rw [payload_cell, set_vRs]
  show _ ⊢ iprop(∃ f, ⌜SOK m (peer (peer d)) g f⌝ ∗ rsL (peer d) ↦[setGS g]{fullShare} f)
  rw [peer_peer]
  refine (Entails.of_eq (pointsTo_congr (s_landed g fd fs))).trans ?_
  iintro H; iexists fs
  isplitr
  · ipureintro; exact hfs
  iexact H

theorem wp_pSend (g : Fin 4) (r : Fin 8) (l : List Xf) (k : PR F) (Q : PUnit → sProp 𝕄) :
    iprop(iprop(fromBuf m d (.inr (g, r)) ∗ land d (.inr (g, r)) ∗ toks d (.inr (g, r))) ∗ iprop(shared m K ∗ ow d (Ol d (.inr (g, r) :: l)))
      ∗ (iprop(cred (tallyAt (sendCell d (.inr (g, r))) () (N (.inr (g, r)))) ∗ shared m K ∗ ow d (Ol d l)) -∗ wpd d k Q))
      ⊢ wpd d (pSend d g r k) Q := by
  unfold fromBuf land toks ow pSend
  iintro ⟨⟨Hs, ⟨%fd, Hd⟩, Ht1, Ht2⟩, ⟨#Hsh, ⟨%W, HO⟩⟩, Hk⟩
  ihave #Hk1 := (shared_get m K (d, kS (.inr (g, r)))) $$ Hsh
  ihave #Hk2 := (shared_get m K (peer d, kR (.inr (g, r)))) $$ Hsh
  unfold known
  icases Hk1 with ⟨#HI1, #Hr1⟩
  icases Hk2 with ⟨#HI2, #Hr2⟩
  iapply (Rounds.wp_send_pointsTo 𝒱₀ (ER F) (Rd m) (d : Thread nD τ) none (κ₁ := K (d, kS (.inr (g, r)))) (κ₂ := K (peer d, kR (.inr (g, r))))
      (c' := (peer d : Thread nD τ)) (src := vSb g r) (dst := vRb g r) (q := fullShare) (fs := qF m d)
      (r₁ := 0) (r₂ := 0) (d₁ := ()) (d₂ := ()) (fd := fd) (duties_mem m d (kS (.inr (g, r)))) (duties_mem m (peer d) (kR (.inr (g, r))))
      () () (N (.inr (g, r))) rfl (amount_cell m d (kS (.inr (g, r)))) (amount_cell m (peer d) (kR (.inr (g, r)))) (Ol d l) rfl (W := W)
      (out_q m d g r) (in_q m d g r fd)) $$ [Hs Hd HO Ht1 Ht2]
  · isplitr; · iexact HI1
    isplitr; · iexact HI2
    isplitl [Hs]
    · iapply (Entails.of_eq (congrArg (fun S => (sbL d ↦[S]{fullShare} (qF m d) : sProp 𝕄)) (set_vSb g r).symm)) $$ Hs
    isplitl [Hd]
    · iapply (Entails.of_eq (congrArg (fun S => (rbL (peer d) ↦[S]{fullShare} fd : sProp 𝕄)) (set_vRb g r).symm)) $$ Hd
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  isplitr; · iexact Hsh
  iexists _; iexact HO

theorem wp_pSendS (g : Fin 4) (l : List Xf) (k : PR F) (Q : PUnit → sProp 𝕄) :
    iprop(iprop(fromBuf m d (.inl g) ∗ land d (.inl g) ∗ toks d (.inl g)) ∗ iprop(shared m K ∗ ow d (Ol d (.inl g :: l)))
      ∗ (iprop(cred (tallyAt (sendCell d (.inl g)) () (N (.inl g))) ∗ shared m K ∗ ow d (Ol d l)) -∗ wpd d k Q))
      ⊢ wpd d (pSendS d g k) Q := by
  unfold fromBuf land toks ow pSendS
  iintro ⟨⟨⟨%fs, %hfs, Hs⟩, ⟨%fd, Hd⟩, Ht1, Ht2⟩, ⟨#Hsh, ⟨%W, HO⟩⟩, Hk⟩
  ihave #Hk1 := (shared_get m K (d, kS (.inl g))) $$ Hsh
  ihave #Hk2 := (shared_get m K (peer d, kR (.inl g))) $$ Hsh
  unfold known
  icases Hk1 with ⟨#HI1, #Hr1⟩
  icases Hk2 with ⟨#HI2, #Hr2⟩
  iapply (Rounds.wp_send_pointsTo 𝒱₀ (ER F) (Rd m) (d : Thread nD τ) none (κ₁ := K (d, kS (.inl g))) (κ₂ := K (peer d, kR (.inl g)))
      (c' := (peer d : Thread nD τ)) (src := vSs g) (dst := vRs g) (q := fullShare) (fs := fs)
      (r₁ := 0) (r₂ := 0) (d₁ := ()) (d₂ := ()) (fd := fd) (duties_mem m d (kS (.inl g))) (duties_mem m (peer d) (kR (.inl g)))
      () () (N (.inl g)) rfl (amount_cell m d (kS (.inl g))) (amount_cell m (peer d) (kR (.inl g))) (Ol d l) rfl (W := W)
      (out_s m d g fs) (in_s m d g fs hfs fd)) $$ [Hs Hd HO Ht1 Ht2]
  · isplitr; · iexact HI1
    isplitr; · iexact HI2
    isplitl [Hs]
    · iapply (Entails.of_eq (congrArg (fun S => (ssL d ↦[S]{fullShare} fs : sProp 𝕄)) (set_vSs g).symm)) $$ Hs
    isplitl [Hd]
    · iapply (Entails.of_eq (congrArg (fun S => (rsL (peer d) ↦[S]{fullShare} fd : sProp 𝕄)) (set_vRs g).symm)) $$ Hd
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  isplitr; · iexact Hsh
  iexists _; iexact HO

/-- All that the transfer `x` takes, and what is left of it. -/
def sendRes (x : Xf) : sProp 𝕄 := iprop(fromBuf m d x ∗ land d x ∗ toks d x)
def sentCred (x : Xf) : sProp 𝕄 := cred (tallyAt (sendCell d x) () (N x))

abbrev rows8 (R : Fin 8 → sProp 𝕄) : sProp 𝕄 := sepL R (List.finRange 8)

theorem wp_pGroup (g : Fin 4) (rest : List Xf) (k : PR F) (Q : PUnit → sProp 𝕄) :
    iprop(sendRes m d (.inl g) ∗ rows8 (fun r => sendRes m d (.inr (g, r))) ∗ shared m K ∗ ow d (Ol d (xs g ++ rest))
      ∗ (iprop(sentCred d (.inl g) ∗ rows8 (fun r => sentCred d (.inr (g, r))) ∗ ow d (Ol d rest)) -∗ wpd d k Q))
      ⊢ wpd d (pGroup d g k) Q := by
  unfold pGroup
  iintro ⟨H0, H8, #Hsh, HO, Hk⟩
  iapply (wp_pSendS m K d g ((List.finRange 8).map (fun r => (Sum.inr (g, r) : Xf)) ++ rest))
  isplitl [H0]; · unfold sendRes; iexact H0
  isplitl [HO]
  · isplitr; · iexact Hsh
    iexact HO
  iintro ⟨Hc, -, HO⟩
  iapply (wp_foldr d (R0 := fun r => sendRes m d (.inr (g, r))) (R1 := fun r => sentCred d (.inr (g, r)))
    (I := fun l => iprop(shared m K ∗ ow d (Ol d (l.map (fun r => (Sum.inr (g, r) : Xf)) ++ rest))))
    (fun r l k' => wp_pSend m K d g r (l.map (fun r => (Sum.inr (g, r) : Xf)) ++ rest) k' Q) (List.finRange 8) k)
  isplitl [H8]; · iexact H8
  isplitl [HO]
  · isplitr; · iexact Hsh
    iexact HO
  iintro ⟨H8, -, HO⟩
  iapply Hk
  isplitl [Hc]; · unfold sentCred; iexact Hc
  isplitl [H8]; · iexact H8
  iexact HO

end Cert.KernelIdeal.Exchange

end
-- ==== Proof.Ideal.Chunks.lean ====
/- Running the chunks of a group, and its sends. -/
module

public import proofs.«01_k».proof.Proof.Ideal.Comm

@[expose] public section

noncomputable section

namespace Cert.KernelIdeal.Exchange

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

variable (m : Mem F) (K : Dev nD × CK → ℕ) (d : Dev nD)

theorem big_sep {I : Type} (s : Finset I) (Φ Ψ : I → sProp 𝕄) :
    bigSep s (fun i => iprop(Φ i ∗ Ψ i)) = iprop(bigSep s Φ ∗ bigSep s Ψ) := bigSep_sep s Φ Ψ

/-! ## A group's buffers, before and after -/

theorem sb_start (g : Fin 4) (n : ℕ) (h : 512 * n ≤ gOff g) : iprop(∃ f, sbL d ↦[setGC g]{fullShare} f) ⊢ sbAt m d g n := by
  unfold sbAt
  iintro ⟨%f, H⟩
  iexists f; isplitr
  · ipureintro; intro r j h1 h2; omega
  iexact H
theorem ss_start (g : Fin 4) (n : ℕ) (h : ∀ c : Fin 16, cGrp c = g → n ≤ c.val) : iprop(∃ f, ssL d ↦[setGS g]{fullShare} f) ⊢ ssAt m d g n := by
  unfold ssAt
  iintro ⟨%f, H⟩
  iexists f; isplitr
  · ipureintro; intro c l hc _ hn; have := h c hc; omega
  iexact H

theorem sb_end (g : Fin 4) (n : ℕ) (h : gOff g + gWid g ≤ 512 * n) :
    sbAt m d g n ⊢ bigSep Finset.univ fun r : Fin 8 => fromBuf m d (.inr (g, r)) := by
  have e : (bigSep Finset.univ fun r : Fin 8 => fromBuf m d (.inr (g, r))) = (sbL d ↦[setGC g]{fullShare} (qF m d) : sProp 𝕄) := by
    refine Eq.trans ?_ (congrArg (fun S => (sbL d ↦[S]{fullShare} (qF m d) : sProp 𝕄)) (setGC_rows g))
    exact (pointsTo_biUnion (ℓ := sbL d) (q := fullShare) (f := qF m d) Finset.univ (fun r => setG g r) fun r _ r' _ hr =>
      setG_disj (g, r) (g, r') fun h => hr (Prod.mk.inj h).2).symm
  rw [e]
  unfold sbAt
  iintro ⟨%f, %hf, H⟩
  iapply (Entails.of_eq (pointsTo_congr (ℓ := sbL d) (I := setGC g) (f := f) (g := qF m d) (fun i hi => ?_))) $$ H
  have hi := (mem_setGC.1 hi).2
  have e : (ValueIdx.ix2 (n0 := 512) (n1 := 8192) (i 0) (i 1)) = i := by
    funext a; revert a; exact Fin.forall_fin_two.2 ⟨rfl, rfl⟩
  rw [← e]
  exact hf (i 0) (i 1) hi.1 (lt_of_lt_of_le hi.2 h)

theorem ss_end (g : Fin 4) (n : ℕ) (h : ∀ c : Fin 16, cGrp c = g → c.val < n) : ssAt m d g n ⊢ fromBuf m d (.inl g) := by
  unfold ssAt fromBuf
  iintro ⟨%f, %hf, H⟩
  iexists f; isplitr
  · ipureintro; exact fun c l hc hl row => hf c l hc hl (h c hc) row
  iexact H

/-! ## The chunks of a group -/

/-- The slots and the logits before chunk `c`. -/
def slots (c : Fin 16) : sProp 𝕄 := iprop(slotFly m d c ∗ slotFree m d (c.val + 1) ∗ obAt m d c.val)
def bufs (g : Fin 4) (n : ℕ) : sProp 𝕄 := iprop(sbAt m d g n ∗ ssAt m d g n)

theorem wp_pStep (c : Fin 16) (l : List Xf) (k : PR F) (Q : PUnit → sProp 𝕄) :
    iprop(slotFly m d c ∗ obAt m d c.val ∗ bufs m d (cGrp c) c.val ∗ ow d (Ol d l) ∗ levAts L lv
      ∗ (iprop(slotFree m d c.val ∗ obAt m d (c.val + 1) ∗ bufs m d (cGrp c) (c.val + 1) ∗ ow d (Ol d l)) -∗ wpd d k Q))
      ⊢ wpd d (pStep d (xv m d) c k) Q := by
  unfold bufs pStep
  iintro ⟨Hf, Ho, ⟨Hsb, Hss⟩, HO, #Hlev, Hk⟩
  iapply (wp_pLoadWait m d c l)
  isplitl [Hf]; · iexact Hf
  isplitl [HO]; · iexact HO
  isplitr; · iexact Hlev
  iintro ⟨Hr, HO⟩
  iapply (wp_pChunk m d c)
  isplitl [Hr]; · iexact Hr
  isplitl [Ho]; · iexact Ho
  isplitl [Hsb]; · iexact Hsb
  isplitl [Hss]; · iexact Hss
  iintro ⟨Hf, Ho, Hsb, Hss⟩
  iapply Hk
  isplitl [Hf]; · iexact Hf
  isplitl [Ho]; · iexact Ho
  isplitl [Hsb Hss]
  · isplitl [Hsb] <;> iassumption
  iexact HO

theorem slot_two (n : ℕ) : slotFree m d n ⊢ slotFree m d (n + 2) := Entails.of_eq (congrArg (slotP m d) (par_two n).symm)

theorem wp_pChunks (g : Fin 4) (l : List Xf) (Q : PUnit → sProp 𝕄) (k : PR F) : ∀ (cs : List (Fin 15)) (c c' : Fin 16)
    (hl : cs.map Fin.val = List.range' c.val cs.length) (hc : c'.val = c.val + cs.length) (hg : ∀ a ∈ cs, cGrp a.castSucc = g),
    iprop(slots m d c ∗ bufs m d g c.val ∗ ow d (Ol d l) ∗ levAts L lv
      ∗ (iprop(slots m d c' ∗ bufs m d g c'.val ∗ ow d (Ol d l)) -∗ wpd d k Q))
      ⊢ wpd d (pChunks d (xv m d) cs k) Q := by
  intro cs
  induction cs with
  | nil =>
    intro c c' hl hc hg
    obtain rfl : c' = c := Fin.ext hc
    rw [show pChunks d (xv m d) [] k = k from rfl]
    iintro ⟨Hs, Hb, HO, -, Hk⟩
    iapply Hk
    isplitl [Hs]; · iexact Hs
    isplitl [Hb] <;> iassumption
  | cons a cs ih =>
    intro c c' hl hc hg
    rw [List.map_cons, List.length_cons, List.range'_succ] at hl
    obtain ⟨ha, hl⟩ := List.cons.inj hl
    obtain rfl : a.castSucc = c := Fin.ext ha
    have hga := hg a (List.mem_cons_self ..)
    subst hga
    have ih := ih a.succ c' hl (by rw [hc, List.length_cons, Fin.val_succ, Fin.val_castSucc]; omega) fun b hb => hg b (List.mem_cons_of_mem _ hb)
    unfold slots at ih ⊢
    rw [show pChunks d (xv m d) (a :: cs) k = pLoad a.succ (pStep d (xv m d) a.castSucc (pChunks d (xv m d) cs k)) from rfl]
    iintro ⟨⟨Hf, Hn, Ho⟩, Hb, HO, #Hlev, Hk⟩
    iapply (wp_pLoad m d a.succ)
    isplitl [Hn]; · iexact Hn
    iintro Hn
    iapply (wp_pStep m d a.castSucc l)
    isplitl [Hf]; · iexact Hf
    isplitl [Ho]; · iexact Ho
    isplitl [Hb]; · iexact Hb
    isplitl [HO]; · iexact HO
    isplitr; · iexact Hlev
    iintro ⟨Hf, Ho, Hb, HO⟩
    iapply ih
    isplitl [Hn Hf Ho]
    · isplitl [Hn]; · iexact Hn
      isplitl [Hf]
      · iapply (slot_two m d a.castSucc.val) $$ Hf
      iexact Ho
    isplitl [Hb]; · iexact Hb
    isplitl [HO]; · iexact HO
    isplitr; · iexact Hlev
    iexact Hk

/-! ## A group's sends -/

/-- What a group takes, and what is left of it. -/
def grpBuf (g : Fin 4) : sProp 𝕄 := iprop((∃ f, sbL d ↦[setGC g]{fullShare} f) ∗ (∃ f, ssL d ↦[setGS g]{fullShare} f))
def over (Φ : Xf → sProp 𝕄) (g : Fin 4) : sProp 𝕄 := iprop(Φ (.inl g) ∗ bigSep Finset.univ fun r : Fin 8 => Φ (.inr (g, r)))
def grpTok (g : Fin 4) : sProp 𝕄 := iprop(over (land d) g ∗ over (toks d) g)
def grpOut (g : Fin 4) : sProp 𝕄 := over (sentCred d) g

/-- Where group `g` starts and ends. -/
def Bounds (g : Fin 4) (a b : ℕ) : Prop := 512 * a ≤ gOff g ∧ gOff g + gWid g ≤ 512 * b ∧ ∀ c : Fin 16, cGrp c = g → a ≤ c.val ∧ c.val < b
instance (g : Fin 4) (a b : ℕ) : Decidable (Bounds g a b) := by unfold Bounds; infer_instance

theorem wp_sends (g : Fin 4) (a b : ℕ) (hb : Bounds g a b) (rest : List Xf) (k : PR F) (Q : PUnit → sProp 𝕄) :
    iprop(bufs m d g b ∗ grpTok d g ∗ shared m K ∗ ow d (Ol d (xs g ++ rest)) ∗ (iprop(grpOut d g ∗ ow d (Ol d rest)) -∗ wpd d k Q))
      ⊢ wpd d (pGroup d g k) Q := by
  unfold bufs grpTok grpOut over
  iintro ⟨⟨Hsb, Hss⟩, ⟨⟨Hl0, Hl⟩, ⟨Ht0, Ht⟩⟩, #Hsh, HO, Hk⟩
  ihave Hsb := (sb_end m d g b hb.2.1) $$ Hsb
  ihave Hss := (ss_end m d g b fun c hc => (hb.2.2 c hc).2) $$ Hss
  have hgrp := wp_pGroup m K d g rest k Q
  rw [show rows8 (fun r => sendRes m d (.inr (g, r))) = _ from sepL_finRange _,
    show rows8 (fun r => sentCred d (.inr (g, r))) = _ from sepL_finRange _] at hgrp
  iapply hgrp
  isplitl [Hss Hl0 Ht0]
  · unfold sendRes
    isplitl [Hss]; · iexact Hss
    isplitl [Hl0] <;> iassumption
  isplitl [Hsb Hl Ht]
  · unfold sendRes
    rw [big_sep, big_sep]
    isplitl [Hsb]; · iexact Hsb
    isplitl [Hl] <;> iassumption
  isplitr; · iexact Hsh
  isplitl [HO]; · iexact HO
  iintro ⟨Hc0, Hc, HO⟩
  iapply Hk
  isplitl [Hc0 Hc]
  · isplitl [Hc0] <;> iassumption
  iexact HO

theorem bufs_start (g : Fin 4) (a b : ℕ) (hb : Bounds g a b) : grpBuf d g ⊢ bufs m d g a := by
  unfold grpBuf bufs
  iintro ⟨H1, H2⟩
  isplitl [H1]
  · iapply (sb_start m d g a hb.1) $$ H1
  iapply (ss_start m d g a fun c hc => (hb.2.2 c hc).1) $$ H2

theorem wp_seg (g : Fin 4) (cs : List (Fin 15)) (c c' : Fin 16) (rest : List Xf)
    (hl : cs.map Fin.val = List.range' c.val cs.length) (hc : c'.val = c.val + cs.length) (hg : ∀ a ∈ cs, cGrp a.castSucc = g)
    (hb : Bounds g c.val c'.val) (k : PR F) (Q : PUnit → sProp 𝕄) :
    iprop(slots m d c ∗ grpBuf d g ∗ grpTok d g ∗ iprop(shared m K ∗ levAts L lv) ∗ ow d (Ol d (xs g ++ rest))
      ∗ (iprop(slots m d c' ∗ grpOut d g ∗ ow d (Ol d rest)) -∗ wpd d k Q))
      ⊢ wpd d (pChunks d (xv m d) cs (pGroup d g k)) Q := by
  iintro ⟨Hs, Hb, Ht, ⟨#Hsh, #Hlev⟩, HO, Hk⟩
  ihave Hb := (bufs_start m d g c.val c'.val hb) $$ Hb
  iapply (wp_pChunks m d g (xs g ++ rest) Q _ cs c c' hl hc hg)
  isplitl [Hs]; · iexact Hs
  isplitl [Hb]; · iexact Hb
  isplitl [HO]; · iexact HO
  isplitr; · iexact Hlev
  iintro ⟨Hs, Hb, HO⟩
  iapply (wp_sends m K d g c.val c'.val hb rest)
  isplitl [Hb]; · iexact Hb
  isplitl [Ht]; · iexact Ht
  isplitr; · iexact Hsh
  isplitl [HO]; · iexact HO
  iintro ⟨Hg, HO⟩
  iapply Hk
  isplitl [Hs]; · iexact Hs
  isplitl [Hg] <;> iassumption

/-- The two slots at rest, and all the logits. -/
def slotsEnd : sProp 𝕄 := iprop(slotP m d 1 ∗ slotP m d 0 ∗ obAt m d 16)

/-- The chunks and sends, from the barrier on. -/
theorem wp_phase1 (k : PR F) (Q : PUnit → sProp 𝕄) :
    iprop(slots m d 0 ∗ sepL (fun g => iprop(grpBuf d g ∗ grpTok d g)) (List.finRange 4) ∗ iprop(shared m K ∗ levAts L lv) ∗ ow d (Ol d xs0)
      ∗ (iprop(slotsEnd m d ∗ sepL (grpOut d) (List.finRange 4) ∗ ow d 0) -∗ wpd d k Q))
      ⊢ wpd d (pChunks d (xv m d) [0] <| pGroup d 0 <| pChunks d (xv m d) [1, 2] <| pGroup d 1 <|
          pChunks d (xv m d) [3, 4, 5, 6] <| pGroup d 2 <|
          pChunks d (xv m d) [7, 8, 9, 10, 11, 12, 13, 14] <| pStep d (xv m d) 15 <| pGroup d 3 k) Q := by
  show iprop(slots m d 0 ∗ iprop(iprop(grpBuf d 0 ∗ grpTok d 0) ∗ iprop(grpBuf d 1 ∗ grpTok d 1) ∗ iprop(grpBuf d 2 ∗ grpTok d 2) ∗ iprop(grpBuf d 3 ∗ grpTok d 3) ∗ emp)
      ∗ iprop(shared m K ∗ levAts L lv) ∗ ow d (Ol d xs0)
      ∗ (iprop(slotsEnd m d ∗ iprop(grpOut d 0 ∗ grpOut d 1 ∗ grpOut d 2 ∗ grpOut d 3 ∗ emp) ∗ ow d 0) -∗ wpd d k Q)) ⊢ _
  iintro ⟨Hs, ⟨⟨Hb0, Ht0⟩, ⟨Hb1, Ht1⟩, ⟨Hb2, Ht2⟩, ⟨Hb3, Ht3⟩, -⟩, ⟨#Hsh, #Hlev⟩, HO, Hk⟩
  iapply (wp_seg m K d 0 [0] 0 1 xs1 (by decide) (by decide) (by decide) (by decide))
  isplitl [Hs]; · iexact Hs
  isplitl [Hb0]; · iexact Hb0
  isplitl [Ht0]; · iexact Ht0
  isplitr; · isplitr <;> iassumption
  isplitl [HO]; · iexact HO
  iintro ⟨Hs, Hg0, HO⟩
  iapply (wp_seg m K d 1 [1, 2] 1 3 xs2 (by decide) (by decide) (by decide) (by decide))
  isplitl [Hs]; · iexact Hs
  isplitl [Hb1]; · iexact Hb1
  isplitl [Ht1]; · iexact Ht1
  isplitr; · isplitr <;> iassumption
  isplitl [HO]; · iexact HO
  iintro ⟨Hs, Hg1, HO⟩
  iapply (wp_seg m K d 2 [3, 4, 5, 6] 3 7 xs3 (by decide) (by decide) (by decide) (by decide))
  isplitl [Hs]; · iexact Hs
  isplitl [Hb2]; · iexact Hb2
  isplitl [Ht2]; · iexact Ht2
  isplitr; · isplitr <;> iassumption
  isplitl [HO]; · iexact HO
  iintro ⟨Hs, Hg2, HO⟩
  ihave Hb3 := (bufs_start m d 3 7 16 (by decide)) $$ Hb3
  iapply (wp_pChunks m d 3 xs3 Q _ [7, 8, 9, 10, 11, 12, 13, 14] 7 15 (by decide) (by decide) (by decide))
  isplitl [Hs]; · iexact Hs
  isplitl [Hb3]; · iexact Hb3
  isplitl [HO]; · iexact HO
  isplitr; · iexact Hlev
  unfold slots
  iintro ⟨⟨Hf, Hn, Ho⟩, Hb3, HO⟩
  iapply (wp_pStep m d 15 xs3)
  isplitl [Hf]; · iexact Hf
  isplitl [Ho]; · iexact Ho
  isplitl [Hb3]; · iexact Hb3
  isplitl [HO]; · iexact HO
  isplitr; · iexact Hlev
  iintro ⟨Hf, Ho, Hb3, HO⟩
  iapply (wp_sends m K d 3 7 16 (by decide) [])
  isplitl [Hb3]; · iexact Hb3
  isplitl [Ht3]; · iexact Ht3
  isplitr; · iexact Hsh
  isplitl [HO]; · iexact HO
  iintro ⟨Hg3, HO⟩
  iapply Hk
  isplitl [Hf Hn Ho]
  · unfold slotsEnd
    isplitl [Hf]; · iexact Hf
    isplitl [Hn]; · iexact Hn
    iexact Ho
  isplitl [Hg0 Hg1 Hg2 Hg3]
  · isplitl [Hg0]; · iexact Hg0
    isplitl [Hg1]; · iexact Hg1
    isplitl [Hg2]; · iexact Hg2
    isplitl [Hg3]; · iexact Hg3
    iempintro
  iexact HO

end Cert.KernelIdeal.Exchange

end
-- ==== Proof.Ideal.Finish.lean ====
/- Running the rows, the copies out and the last waits. -/
module

public import proofs.«01_k».proof.Proof.Ideal.Chunks

@[expose] public section

noncomputable section

namespace Cert.KernelIdeal.Exchange

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

variable (m : Mem F) (K : Dev nD × CK → ℕ) (d : Dev nD)

/-! ## Splitting and joining buffers of any contents -/

section Pieces
variable {ℓ : Loc nD τ sig} {T : Type} [Fintype T] [DecidableEq T] (I : T → Finset (Idx ℓ))
  (hd : ∀ t t', t ≠ t' → Disjoint (I t) (I t')) (hc : (Finset.univ : Finset T).biUnion I = Finset.univ)
include hd hc

theorem whole_pieces (f : Buf (Elt F) ℓ) : (ℓ ↦{fullShare} f : sProp 𝕄) = bigSep Finset.univ fun t => ℓ ↦[I t]{fullShare} f :=
  (congrArg (fun S => (ℓ ↦[S]{fullShare} f : sProp 𝕄)) hc.symm).trans (pointsTo_biUnion Finset.univ I fun t _ t' _ h => hd t t' h)

theorem split_some : iprop(∃ f : Buf (Elt F) ℓ, ℓ ↦{fullShare} f) ⊢ (bigSep Finset.univ fun t => iprop(∃ f : Buf (Elt F) ℓ, ℓ ↦[I t]{fullShare} f) : sProp 𝕄) := by
  iintro ⟨%f, H⟩
  iapply ((Entails.of_eq (whole_pieces I hd hc f)).trans (bigSep_mono fun t _ => (by
    iintro H; iexists f; iexact H : (ℓ ↦[I t]{fullShare} f : sProp 𝕄) ⊢ iprop(∃ f : Buf (Elt F) ℓ, ℓ ↦[I t]{fullShare} f)))) $$ H

theorem join_with (P : T → Buf (Elt F) ℓ → Prop) (f₀ : Buf (Elt F) ℓ) :
    (bigSep Finset.univ fun t => iprop(∃ f : Buf (Elt F) ℓ, ⌜P t f⌝ ∗ ℓ ↦[I t]{fullShare} f) : sProp 𝕄)
      ⊢ iprop(∃ g : Buf (Elt F) ℓ, ⌜∀ t, ∃ f, P t f ∧ ∀ i ∈ I t, g i = f i⌝ ∗ ℓ ↦{fullShare} g) := by
  haveI : ∀ _ : T, Nonempty (Buf (Elt F) ℓ) := fun _ => ⟨f₀⟩
  refine (bigSep_exists_pi Finset.univ (fun t (f : Buf (Elt F) ℓ) => iprop(⌜P t f⌝ ∗ ℓ ↦[I t]{fullShare} f))).trans ?_
  iintro ⟨%fs, H⟩
  ihave H := (bigSep_pure_sep Finset.univ (fun t => P t (fs t)) (fun t => (ℓ ↦[I t]{fullShare} fs t : sProp 𝕄))) $$ H
  icases H with ⟨%hp, H⟩
  ihave H := (pointsTo_biUnion_join Finset.univ I fs f₀ fun t _ t' _ h => hd t t' h) $$ H
  icases H with ⟨%g, %hg, H⟩
  iexists g
  isplitr
  · ipureintro; exact fun t => ⟨fs t, hp t (Finset.mem_univ t), hg t (Finset.mem_univ t)⟩
  iapply (Entails.of_eq (congrArg (fun S => (ℓ ↦[S]{fullShare} g : sProp 𝕄)) hc)) $$ H

theorem join_some (f₀ : Buf (Elt F) ℓ) :
    (bigSep Finset.univ fun t => iprop(∃ f : Buf (Elt F) ℓ, ℓ ↦[I t]{fullShare} f) : sProp 𝕄) ⊢ iprop(∃ g : Buf (Elt F) ℓ, ℓ ↦{fullShare} g) := by
  refine (bigSep_mono fun t _ => (?_ : _ ⊢ iprop(∃ f : Buf (Elt F) ℓ, ⌜True⌝ ∗ ℓ ↦[I t]{fullShare} f))).trans
    ((join_with I hd hc (fun _ _ => True) f₀).trans ?_)
  · iintro ⟨%f, H⟩; iexists f; isplitr
    · ipureintro; trivial
    iexact H
  · iintro ⟨%g, -, H⟩; iexists g; iexact H

end Pieces

/-! ## The rows -/

def rowIn (r : Fin 8) : sProp 𝕄 :=
  iprop((bigSep Finset.univ fun g : Fin 4 => due d (kR (.inr (g, r)))) ∗ (obStr m d (stripeOf r 0) ∗ obStr m d (stripeOf r 1)) ∗ outSlot d r)
def rowOut (r : Fin 8) : sProp 𝕄 :=
  iprop(outFly m d r ∗ rbRow m d r ∗ bigSep Finset.univ fun g : Fin 4 => semVal (kcell (d, kR (.inr (g, r)))) 0)

theorem row_in (r : Fin 8) : (bigSep Finset.univ fun g : Fin 4 => got m d (kR (.inr (g, r))))
    = iprop(rbRow m d r ∗ bigSep Finset.univ fun g : Fin 4 => semVal (kcell (d, kR (.inr (g, r)))) 0) := by
  unfold got
  rw [big_sep]
  refine congrArg (fun P => iprop(P ∗ bigSep Finset.univ fun g : Fin 4 => semVal (kcell (d, kR (.inr (g, r)))) 0)) ?_
  refine Eq.trans ?_ (congrArg (fun S => (rbL d ↦[S]{fullShare} (qF m (peer d)) : sProp 𝕄)) (setRow_groups r))
  exact (pointsTo_biUnion (ℓ := rbL d) (q := fullShare) (f := qF m (peer d)) Finset.univ (fun g => setG g r) fun g _ g' _ hg =>
      setG_disj (g, r) (g', r) fun h => hg (Prod.mk.inj h).1).symm

theorem wp_pRow (r : Fin 8) (l : List (Fin 8)) (k : PR F) (Q : PUnit → sProp 𝕄) :
    iprop(rowIn m d r ∗ iprop(calm m K d ∗ rsAll m d) ∗ (iprop(rowOut m d r ∗ iprop(calm m K d ∗ rsAll m d)) -∗ wpd d k Q)) ⊢ wpd d (pRow d r k) Q := by
  unfold rowIn rowOut pRow
  have hrec := wp_foldr d (body := pRecv r) (R0 := fun g => due d (kR (.inr (g, r)))) (R1 := fun g => got m d (kR (.inr (g, r))))
    (I := fun _ => calm m K d) (Q := Q) (fun g l k => wp_pRecv m K d r g k Q) (List.finRange 4)
    (pStripe d (stripeOf r 0) (pStripe d (stripeOf r 1) (pOut r k)))
  rw [sepL_finRange, sepL_finRange, row_in] at hrec
  iintro ⟨⟨Hdue, ⟨H0, H1⟩, Hout⟩, ⟨Hcalm, Hs⟩, Hk⟩
  iapply hrec
  isplitl [Hdue]; · iexact Hdue
  isplitl [Hcalm]; · iexact Hcalm
  iintro ⟨⟨Hb, Hz⟩, Hcalm⟩
  iapply (wp_pStripe m d r 0)
  isplitl [H0]; · iexact H0
  isplitl [Hb]; · iexact Hb
  isplitl [Hs]; · iexact Hs
  iintro ⟨H0, Hb, Hs⟩
  iapply (wp_pStripe m d r 1)
  isplitl [H1]; · iexact H1
  isplitl [Hb]; · iexact Hb
  isplitl [Hs]; · iexact Hs
  iintro ⟨H1, Hb, Hs⟩
  iapply (wp_pOut m d r)
  isplitl [H0]; · iexact H0
  isplitl [H1]; · iexact H1
  isplitl [Hout]; · iexact Hout
  iintro HF
  iapply Hk
  isplitl [HF Hb Hz]
  · isplitl [HF]; · iexact HF
    isplitl [Hb] <;> iassumption
  isplitl [Hcalm] <;> iassumption

/-- All the scales, once they have arrived. -/
theorem scales_in : (bigSep Finset.univ fun g : Fin 4 => got m d (kR (.inl g)))
    ⊢ iprop(rsAll m d ∗ bigSep Finset.univ fun g : Fin 4 => semVal (kcell (d, kR (.inl g))) 0) := by
  unfold got rsAll
  rw [big_sep]
  show iprop((bigSep Finset.univ fun g : Fin 4 => iprop(∃ f : Buf (Elt F) (rsL d), ⌜SOK m (peer d) g f⌝ ∗ rsL d ↦[setGS g]{fullShare} f)) ∗ _) ⊢ _
  iintro ⟨H, Hz⟩
  isplitl [H]
  · ihave H := (join_with (ℓ := rsL d) setGS setGS_disj setGS_cover (fun g f => SOK m (peer d) g f) (m (rsL d))) $$ H
    icases H with ⟨%g, %hg, H⟩
    iexists g
    isplitr
    · ipureintro
      intro g' c l hc hl row
      obtain ⟨f, hf, hgf⟩ := hg g'
      exact (hgf _ (mem_setGS.2 rfl)).trans (hf c l hc hl row)
    iexact H
  iexact Hz

theorem wp_pRows (k : PR F) (Q : PUnit → sProp 𝕄) :
    iprop((bigSep Finset.univ fun g : Fin 4 => due d (kR (.inl g))) ∗ (bigSep Finset.univ fun r : Fin 8 => rowIn m d r) ∗ calm m K d
      ∗ (iprop((bigSep Finset.univ fun r : Fin 8 => rowOut m d r) ∗ rsAll m d ∗ (bigSep Finset.univ fun g : Fin 4 => semVal (kcell (d, kR (.inl g))) 0)
          ∗ calm m K d) -∗ wpd d k Q))
      ⊢ wpd d (pRows d k) Q := by
  unfold pRows
  have hrec := wp_foldr d (body := pRecvS) (R0 := fun g => due d (kR (.inl g))) (R1 := fun g => got m d (kR (.inl g)))
    (I := fun _ => calm m K d) (Q := Q) (fun g l k => wp_pRecvS m K d g k Q) (List.finRange 4) ((List.finRange 8).foldr (pRow d) k)
  have hrow := wp_foldr d (body := pRow d) (R0 := rowIn m d) (R1 := rowOut m d)
    (I := fun _ => iprop(calm m K d ∗ rsAll m d)) (Q := Q) (fun r l k => wp_pRow m K d r l k Q) (List.finRange 8) k
  rw [sepL_finRange, sepL_finRange] at hrec hrow
  iintro ⟨Hdue, Hrows, Hcalm, Hk⟩
  iapply hrec
  isplitl [Hdue]; · iexact Hdue
  isplitl [Hcalm]; · iexact Hcalm
  iintro ⟨Hg, Hcalm⟩
  ihave Hg := (scales_in m d) $$ Hg
  icases Hg with ⟨Hs, Hz⟩
  iapply hrow
  isplitl [Hrows]; · iexact Hrows
  isplitl [Hcalm Hs]
  · isplitl [Hcalm] <;> iassumption
  iintro ⟨Hrows, ⟨Hcalm, Hs⟩⟩
  iapply Hk
  isplitl [Hrows]; · iexact Hrows
  isplitl [Hs]; · iexact Hs
  isplitl [Hz] <;> iassumption

/-! ## The last waits -/

theorem wp_pSents (g : Fin 4) (k : PR F) (Q : PUnit → sProp 𝕄) :
    iprop(over (fun x => due d (kS x)) g ∗ calm m K d ∗ (iprop(over (fun x => got m d (kS x)) g ∗ calm m K d) -∗ wpd d k Q))
      ⊢ wpd d (pSentS g ((List.finRange 8).foldr (pSent g) k)) Q := by
  unfold over
  have hrec := wp_foldr d (body := pSent g) (R0 := fun r => due d (kS (.inr (g, r)))) (R1 := fun r => got m d (kS (.inr (g, r))))
    (I := fun _ => calm m K d) (Q := Q) (fun r l k => wp_pSent m K d g r k Q) (List.finRange 8) k
  rw [sepL_finRange, sepL_finRange] at hrec
  iintro ⟨⟨H0, H⟩, Hcalm, Hk⟩
  iapply (wp_pSentS m K d g)
  isplitl [H0]; · iexact H0
  isplitl [Hcalm]; · iexact Hcalm
  iintro ⟨H0, Hcalm⟩
  iapply hrec
  isplitl [H]; · iexact H
  isplitl [Hcalm]; · iexact Hcalm
  iintro ⟨H, Hcalm⟩
  iapply Hk
  isplitl [H0 H]
  · isplitl [H0] <;> iassumption
  iexact Hcalm

theorem wp_pDrain (k : PR F) (Q : PUnit → sProp 𝕄) :
    iprop((bigSep Finset.univ fun r : Fin 8 => outFly m d r) ∗ (bigSep Finset.univ fun g : Fin 4 => over (fun x => due d (kS x)) g) ∗ calm m K d
      ∗ (iprop((bigSep Finset.univ fun r : Fin 8 => outHome m d r) ∗ (bigSep Finset.univ fun g : Fin 4 => over (fun x => got m d (kS x)) g)
          ∗ calm m K d) -∗ wpd d k Q))
      ⊢ wpd d (pDrain k) Q := by
  unfold pDrain
  have hout := wp_foldr d (body := pOutWait) (R0 := outFly m d) (R1 := outHome m d)
    (I := fun _ => ow d 0) (Q := Q) (fun r l k => wp_pOutWait m d r k Q) (List.finRange 8)
    ((List.finRange 4).foldr (fun g k' => pSentS g ((List.finRange 8).foldr (pSent g) k')) k)
  have hsent := wp_foldr d (body := fun g k' => pSentS g ((List.finRange 8).foldr (pSent g) k')) (R0 := over (fun x => due d (kS x)))
    (R1 := over (fun x => got m d (kS x))) (I := fun _ => calm m K d) (Q := Q) (fun g l k => wp_pSents m K d g k Q) (List.finRange 4) k
  rw [sepL_finRange, sepL_finRange] at hout hsent
  iintro ⟨Ho, Hs, ⟨#Hsh, HO⟩, Hk⟩
  iapply hout
  isplitl [Ho]; · iexact Ho
  isplitl [HO]; · iexact HO
  iintro ⟨Ho, HO⟩
  iapply hsent
  isplitl [Hs]; · iexact Hs
  isplitl [HO]
  · isplitr <;> iassumption
  iintro ⟨Hs, Hcalm⟩
  iapply Hk
  isplitl [Ho]; · iexact Ho
  isplitl [Hs] <;> iassumption

end Cert.KernelIdeal.Exchange

end
-- ==== Proof.Ideal.Run.lean ====
/- The body, from what a device starts with to what it ends with. -/
module

public import proofs.«01_k».proof.Proof.Ideal.Finish

@[expose] public section

noncomputable section

namespace Cert.KernelIdeal.Exchange

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight)

variable {F : FTy → Type} [FloatOps F]

local notation "𝕄" => MT nD τ sig Unit (Elt F) ℕ UU ℕ

variable (m : Mem F) (K : Dev nD × CK → ℕ) (d : Dev nD)

/-! ## Sums over the transfers -/

theorem two (Φ : Fin 2 → sProp 𝕄) : bigSep Finset.univ Φ = iprop(Φ 0 ∗ Φ 1) := bigSep_univ_eq_bigSepL [0, 1] (by decide) (by decide) Φ

theorem over_xf (Φ : Xf → sProp 𝕄) : bigSep Finset.univ Φ
    = iprop((bigSep Finset.univ fun g : Fin 4 => Φ (.inl g)) ∗ bigSep Finset.univ fun x : Fin 4 × Fin 8 => Φ (.inr x)) := bigSep_univ_sum Φ

theorem over_groups (Φ : Xf → sProp 𝕄) : bigSep Finset.univ Φ = bigSep Finset.univ (over Φ) := by
  rw [over_xf, bigSep_univ_prod]; exact (big_sep Finset.univ (fun g : Fin 4 => Φ (.inl g)) _).symm

theorem over_rows (Φ : Fin 4 × Fin 8 → sProp 𝕄) :
    bigSep Finset.univ Φ = bigSep Finset.univ fun r : Fin 8 => bigSep Finset.univ fun g : Fin 4 => Φ (g, r) := by
  rw [bigSep_univ_equiv (Equiv.prodComm (Fin 8) (Fin 4)) Φ, bigSep_univ_prod]; rfl

/-! ## The slots -/

theorem slot_disj (p p' : Fin 2) (h : p ≠ p') : Disjoint (rSlP p).set (rSlP p').set := by
  rw [Finset.disjoint_left]
  intro i hi hj
  have hi := (Rect.mem_set_unit.1 hi) (0 : Fin 3)
  have hj := (Rect.mem_set_unit.1 hj) (0 : Fin 3)
  change p.val ≤ (i 0).val ∧ (i 0).val < p.val + 1 at hi
  change p'.val ≤ (i 0).val ∧ (i 0).val < p'.val + 1 at hj
  exact h (Fin.ext (by omega))
theorem slot_cover : (Finset.univ : Finset (Fin 2)).biUnion (fun p => (rSlP p).set) = Finset.univ := by
  refine Finset.eq_univ_of_forall fun i => ?_
  have h1 : (i 1).val < 1024 := (i 1).isLt
  have h2 : (i 2).val < 512 := (i 2).isLt
  refine Finset.mem_biUnion.2 ⟨i 0, Finset.mem_univ _, Rect.mem_set_unit.2 ?_⟩
  refine Fin.forall_fin_succ.2 ⟨?_, Fin.forall_fin_two.2 ⟨?_, ?_⟩⟩
  · show (i 0).val ≤ (i 0).val ∧ (i 0).val < (i 0).val + 1; omega
  · show 0 ≤ (i 1).val ∧ (i 1).val < 0 + 1024; omega
  · show 0 ≤ (i 2).val ∧ (i 2).val < 0 + 512; omega

/-- The counters of the copies in, and of the copies out, at rest. -/
def loadSems : sProp 𝕄 := bigSep Finset.univ fun p : Fin 2 => semVal ((d : Thread nD τ), .dma (semLdP p)) 0
def outSems : sProp 𝕄 := bigSep Finset.univ fun r : Fin 8 => semVal ((d : Thread nD τ), .dma (semOut r)) 0

theorem slots_start : iprop((wL d ↦{fullShare} m (wL d)) ∗ (∃ f, wbL d ↦{fullShare} f) ∗ loadSems d) ⊢ iprop(slotP m d 0 ∗ slotP m d 1) := by
  unfold loadSems slotP
  rw [two]
  iintro ⟨HW, Hb, Hv0, Hv1⟩
  ihave HW := (pointsTo_share (PosShare.mem_left_op_right fullShare)).1 $$ HW
  icases HW with ⟨HW0, HW1⟩
  ihave Hb := (split_some (ℓ := wbL d) (fun p => (rSlP p).set) slot_disj slot_cover) $$ Hb
  ihave Hb := (Entails.of_eq (two (fun p => iprop(∃ f, wbL d ↦[(rSlP p).set]{fullShare} f)))) $$ Hb
  icases Hb with ⟨Hb0, Hb1⟩
  isplitl [HW0 Hb0 Hv0]
  · isplitl [HW0]; · iexact HW0
    isplitl [Hb0]; · iexact Hb0
    iexact Hv0
  isplitl [HW1]; · iexact HW1
  isplitl [Hb1]; · iexact Hb1
  iexact Hv1

theorem slots_stop : iprop(slotP m d 1 ∗ slotP m d 0) ⊢ iprop((wL d ↦{fullShare} m (wL d)) ∗ (∃ f, wbL d ↦{fullShare} f) ∗ loadSems d) := by
  unfold loadSems slotP
  rw [two]
  iintro ⟨⟨HW1, Hb1, Hv1⟩, ⟨HW0, Hb0, Hv0⟩⟩
  isplitl [HW0 HW1]
  · iapply (pointsTo_share (PosShare.mem_left_op_right fullShare)).2
    isplitl [HW0]; · iexact HW0
    iexact HW1
  isplitl [Hb0 Hb1]
  · iapply (join_some (ℓ := wbL d) (fun p => (rSlP p).set) slot_disj slot_cover (m (wbL d)))
    iapply (Entails.of_eq (two (fun p => iprop(∃ f, wbL d ↦[(rSlP p).set]{fullShare} f))).symm)
    isplitl [Hb0] <;> iassumption
  isplitl [Hv0] <;> iassumption

/-! ## The pieces before and after -/

theorem lands : barPay d ⊢ bigSep Finset.univ (land (F := F) d) := by
  rw [over_xf]
  unfold barPay
  iintro ⟨Hb, Hs⟩
  isplitl [Hs]
  · iapply (split_some (ℓ := rsL (peer d)) setGS setGS_disj setGS_cover) $$ Hs
  iapply (split_some (ℓ := rbL (peer d)) (fun x : Fin 4 × Fin 8 => setG x.1 x.2) setG_disj setG_cover) $$ Hb

theorem bufs_split : iprop((∃ f, sbL d ↦{fullShare} f) ∗ (∃ f, ssL d ↦{fullShare} f)) ⊢ bigSep Finset.univ (grpBuf (F := F) d) := by
  show _ ⊢ bigSep Finset.univ fun g => iprop((∃ f, sbL d ↦[setGC g]{fullShare} f) ∗ (∃ f, ssL d ↦[setGS g]{fullShare} f))
  rw [big_sep]
  iintro ⟨Hb, Hs⟩
  isplitl [Hb]
  · iapply (split_some (ℓ := sbL d) setGC setGC_disj setGC_cover) $$ Hb
  iapply (split_some (ℓ := ssL d) setGS setGS_disj setGS_cover) $$ Hs

theorem bufs_join : bigSep Finset.univ (sendPay (F := F) d) ⊢ iprop((∃ f, sbL d ↦{fullShare} f) ∗ (∃ f, ssL d ↦{fullShare} f)) := by
  rw [over_xf, show (fun x : Fin 4 × Fin 8 => sendPay (F := F) d (.inr x)) = fun x => iprop(∃ f, sbL d ↦[setG x.1 x.2]{fullShare} f) from rfl,
    show (fun g : Fin 4 => sendPay (F := F) d (.inl g)) = fun g => iprop(∃ f, ssL d ↦[setGS g]{fullShare} f) from rfl]
  iintro ⟨Hs, Hb⟩
  isplitl [Hb]
  · iapply (join_some (ℓ := sbL d) (fun x : Fin 4 × Fin 8 => setG x.1 x.2) setG_disj setG_cover (fun _ => default)) $$ Hb
  iapply (join_some (ℓ := ssL d) setGS setGS_disj setGS_cover (fun _ => default)) $$ Hs

theorem ob_split : obAt m d 16 ⊢ bigSep Finset.univ fun r : Fin 8 => iprop(obStr m d (stripeOf r 0) ∗ obStr m d (stripeOf r 1)) := by
  unfold obAt
  iintro ⟨%f, %hf, H⟩
  have hs : ∀ s, SRok m d s f := fun s r j => hf (srow s r) j (by have := j.isLt; omega)
  have hpiece : ∀ s, (obL d ↦[setStr s]{fullShare} f : sProp 𝕄) ⊢ obStr m d s := fun s => by
    unfold obStr
    iintro H; iexists f; isplitr
    · ipureintro; exact hs s
    iexact H
  have hd2 : ∀ r r' : Fin 8, r ≠ r' → Disjoint (setStr (stripeOf r 0) ∪ setStr (stripeOf r 1)) (setStr (stripeOf r' 0) ∪ setStr (stripeOf r' 1)) :=
    fun r r' h => by rw [setStr_out, setStr_out]; exact setOut_disj r r' h
  iapply ((Entails.of_eq (whole_pieces (ℓ := obL d) (fun r : Fin 8 => setStr (stripeOf r 0) ∪ setStr (stripeOf r 1)) hd2 setStr_cover f)).trans
    (bigSep_mono fun r _ => (pointsTo_union (setStr_disj _ _ (stripe_two r))).1.trans (BI.sep_mono (hpiece _) (hpiece _)))) $$ H

theorem out_split : iprop((oL d ↦{fullShare} m (oL d)) ∗ outSems d) ⊢ bigSep Finset.univ (outSlot (F := F) d) := by
  show _ ⊢ bigSep Finset.univ fun r => iprop((∃ f : Buf (Elt F) (oL d), oL d ↦[setOut r]{fullShare} f) ∗ semVal ((d : Thread nD τ), .dma (semOut r)) 0)
  rw [big_sep]
  unfold outSems
  iintro ⟨Ho, Hv⟩
  isplitl [Ho]
  · iapply (split_some (ℓ := oL d) setOut setOut_disj setOut_cover)
    iexists _; iexact Ho
  iexact Hv

theorem out_join : bigSep Finset.univ (outHome m d) ⊢ iprop((oL d ↦{fullShare} (outF m d)) ∗ (obL d ↦{fullShare} (outF m d)) ∗ outSems d) := by
  show (bigSep Finset.univ fun r => iprop((oL d ↦[setOut r]{fullShare} (outF m d)) ∗ (obL d ↦[setOut r]{fullShare} (outF m d)) ∗ semVal ((d : Thread nD τ), .dma (semOut r)) 0)) ⊢ _
  rw [big_sep, big_sep, ← whole_pieces (ℓ := oL d) setOut setOut_disj setOut_cover, ← whole_pieces (ℓ := obL d) setOut setOut_disj setOut_cover]
  exact .rfl

theorem row_disj (r r' : Fin 8) (h : r ≠ r') : Disjoint (setRow r) (setRow r') := by
  rw [Finset.disjoint_left]
  intro i hi hj
  have hi := (mem_set2.1 hi).1
  have hj := (mem_set2.1 hj).1
  exact h (Fin.ext (by omega))
theorem row_cover : (Finset.univ : Finset (Fin 8)).biUnion setRow = Finset.univ := by
  refine Finset.eq_univ_of_forall fun i => ?_
  have h0 : (i 0).val < 512 := (i 0).isLt
  have h1 : (i 1).val < 8192 := (i 1).isLt
  exact Finset.mem_biUnion.2 ⟨⟨(i 0).val / 64, by omega⟩, Finset.mem_univ _, mem_set2.2 (by dsimp only; omega)⟩

theorem rb_join : bigSep Finset.univ (rbRow m d) ⊢ iprop(∃ f, rbL d ↦{fullShare} f) := by
  show (bigSep Finset.univ fun r => (rbL d ↦[setRow r]{fullShare} (qF m (peer d)) : sProp 𝕄)) ⊢ _
  rw [← whole_pieces (ℓ := rbL d) setRow row_disj row_cover]
  iintro H; iexists _; iexact H

theorem rows_in (A B C : Fin 8 → sProp 𝕄) : iprop(bigSep Finset.univ A ∗ bigSep Finset.univ B ∗ bigSep Finset.univ C)
    ⊢ bigSep Finset.univ fun r => iprop(A r ∗ B r ∗ C r) := by
  rw [big_sep Finset.univ A, big_sep Finset.univ B C]
theorem rows_out (A B C : Fin 8 → sProp 𝕄) : (bigSep Finset.univ fun r => iprop(A r ∗ B r ∗ C r))
    ⊢ iprop(bigSep Finset.univ A ∗ bigSep Finset.univ B ∗ bigSep Finset.univ C) := by
  rw [big_sep Finset.univ A, big_sep Finset.univ B C]

/-! ## The body -/

/-- What a device holds of the exchange's records, counters and arrays at the start, -/
def start : sProp 𝕄 :=
  iprop(iprop(shared m K ∗ levAts L lv) ∗ dutyTok (ER F) (barCell (peer d)) 0 () ∗ due d (.inl ())
    ∗ bigSep Finset.univ (toks (F := F) d) ∗ (bigSep Finset.univ fun x => due d (kR x)) ∗ (bigSep Finset.univ fun x => atPos (ER F) (sendCell d x) 0 ∅ 0)
    ∗ iprop((wL d ↦{fullShare} m (wL d)) ∗ (oL d ↦{fullShare} m (oL d))) ∗ loadSems d ∗ outSems d)
/-- its scratch buffers, -/
def scratch : sProp 𝕄 :=
  iprop((∃ f, obL d ↦{fullShare} f) ∗ (∃ f, wbL d ↦{fullShare} f) ∗ (∃ f, sbL d ↦{fullShare} f) ∗ (∃ f, rbL d ↦{fullShare} f)
    ∗ (∃ f, ssL d ↦{fullShare} f) ∗ (∃ f, rsL d ↦{fullShare} f))
/-- and what it holds at the end. -/
def done : sProp 𝕄 :=
  iprop(iprop((wL d ↦{fullShare} m (wL d)) ∗ (oL d ↦{fullShare} outF m d)) ∗ iprop(loadSems d ∗ outSems d)
    ∗ (bigSep Finset.univ fun x => semVal (kcell (d, kS x)) 0) ∗ (bigSep Finset.univ fun x => semVal (kcell (d, kR x)) 0)
    ∗ semVal (barCell d) 0 ∗ scratch d)

abbrev mX : Memref sig .tc .vmem S512x1024 .f32 := Memref.whole cc0_stg0_0
abbrev xL (d : Dev nD) : Loc nD τ sig := (d : Thread nD τ).loc cc0_stg0_0

theorem zero2 : (![0, 0] : Fin 2 → Nat) = fun _ => 0 := funext fun a => by fin_cases a <;> rfl
theorem read_stage (f : (cc0_stg0_0 : Ref sig .tc).ty.Contents (Elt F)) : (mX.access rX).read (Elt F) f = f :=
  Memref.read_access_unit_zero (Elt F) cc0_stg0_0 zero2 _ f

/-- From the barrier's signal to its end. -/
theorem wp_barrier (k : PR F) (Q : PUnit → sProp 𝕄) :
    iprop(iprop(shared m K ∗ levAts L lv) ∗ dutyTok (ER F) (barCell (peer d)) 0 () ∗ due d (.inl ()) ∗ ow d (O₀ d) ∗ (∃ f, rbL d ↦{fullShare} f) ∗ (∃ f, rsL d ↦{fullShare} f)
      ∗ (iprop(barPay d ∗ semVal (barCell d) 0 ∗ ow d (Ol d xs0)) -∗ wpd d k Q))
      ⊢ wpd d (.op (.semSignal (peer d, .tc) barSem 1) fun _ => .op (.semWait barSem 1) fun _ => k) Q := by
  unfold ow
  iintro ⟨⟨#Hsh, #Hlev⟩, Ht, Hdue, ⟨%W, HO⟩, Hb, Hs, Hk⟩
  ihave #Hkn := (shared_get m K (peer d, .inl ())) $$ Hsh
  unfold known
  icases Hkn with ⟨#HI, #Hr⟩
  iapply (Rounds.wp_signal 𝒱₀ (ER F) (Rd m) (d : Thread nD τ) none (dst := (peer d : Thread nD τ)) (κ := K (peer d, .inl ()))
      (d := ()) (duties_mem m (peer d) (.inl ())) ((amount_cell m (peer d) (.inl ())).trans (by rfl)) () (Ol d xs0) rfl) $$ [HO Ht Hb Hs]
  · isplitr; · iexact HI
    isplitl [HO]; · iexact HO
    isplitl [Ht]; · iexact Ht
    isplitl [Hb Hs]
    · iapply (Entails.of_eq (show barPay (F := F) (peer d) = (Rd m).payload ((peer d : Thread nD τ), .reg barSem) 0 () from (payload_cell m (peer d) (.inl ())).symm))
      unfold barPay
      rw [peer_peer]
      isplitl [Hb] <;> iassumption
    · iexact Hr
  iintro HO
  iapply (wp_cellWait m K d (.inl ()) (wpE_semWait_eq 𝒱₀ (d : Thread nD τ) none Set.univ) rfl (Ol d xs0) (fun _ => k))
  isplitr; · iexact Hsh
  isplitl [Hdue]; · iexact Hdue
  isplitl [HO]; · unfold ow; iexists W; iexact HO
  isplitr
  · iapply (mayWait_ol d (csem (.inl ())) xs0 (le_of_eq (lv_bar d))); iexact Hlev
  unfold got ow
  iintro ⟨⟨Hp, Hz⟩, HO⟩
  iapply Hk
  isplitl [Hp]; · iapply (Entails.of_eq (show pay m d (.inl ()) = barPay d from rfl)) $$ Hp
  isplitl [Hz]; · iexact Hz
  iexact HO

set_option maxHeartbeats 1000000 in
theorem wp_body (Q : PUnit → sProp 𝕄) :
    iprop(start m K d ∗ scratch d ∗ ow d (O₀ d) ∗ (xL d ↦{fullShare} xstg m d)
      ∗ (iprop(done m d ∗ ow d 0 ∗ (xL d ↦{fullShare} xstg m d)) -∗ Q ⟨⟩))
      ⊢ wpd d (pBody mX) Q := by
  unfold pBody
  unfold wpd
  rw [wp_deviceId]
  unfold start scratch
  iintro ⟨⟨⟨#Hsh, #Hlev⟩, HtB, HdB, Htok, HdR, HatS, ⟨HW, Ho⟩, HvL, HvO⟩, ⟨Hob, Hwb, Hsb, Hrb, Hss, Hrs⟩, HO, Hx, Hk⟩
  ihave Hsl := (slots_start m d) $$ [HW Hwb HvL]
  · isplitl [HW]; · iexact HW
    isplitl [Hwb] <;> iassumption
  icases Hsl with ⟨Hs0, Hs1⟩
  iapply (wp_pLoad m d 0)
  isplitl [Hs0]; · iexact Hs0
  iintro Hs0
  iapply (wp_barrier m K d)
  isplitr; · isplitr <;> iassumption
  isplitl [HtB]; · iexact HtB
  isplitl [HdB]; · iexact HdB
  isplitl [HO]; · iexact HO
  isplitl [Hrb]; · iexact Hrb
  isplitl [Hrs]; · iexact Hrs
  iintro ⟨Hbar, HzB, HO⟩
  iapply (wp_load_rect 𝒱₀ (d : Thread nD τ) none Set.univ (m := mX) (r := rX) (Finset.subset_univ _)) $$ Hx; iintro Hx
  rw [read_stage, show k0_pay1 (xstg m d) = xv m d from rfl]
  -- the chunks
  ihave Hl := (lands d) $$ Hbar
  ihave Hbuf := (bufs_split (F := F) d) $$ [Hsb Hss]
  · isplitl [Hsb] <;> iassumption
  iapply (wp_phase1 m K d)
  isplitl [Hs0 Hs1 Hob]
  · unfold slots
    isplitl [Hs0]; · iexact Hs0
    isplitl [Hs1]; · iexact Hs1
    unfold obAt
    icases Hob with ⟨%f, Hob⟩
    iexists f; isplitr
    · ipureintro; intro r j h; exact absurd h (Nat.not_lt_zero _)
    iexact Hob
  isplitl [Hl Hbuf Htok]
  · iapply (Entails.of_eq (sepL_finRange (fun g => iprop(grpBuf (F := F) d g ∗ grpTok d g))).symm)
    rw [big_sep]
    isplitl [Hbuf]; · iexact Hbuf
    unfold grpTok
    rw [big_sep]
    isplitl [Hl]
    · iapply (Entails.of_eq (over_groups (land (F := F) d))) $$ Hl
    iapply (Entails.of_eq (over_groups (toks (F := F) d))) $$ Htok
  isplitr; · isplitr <;> iassumption
  isplitl [HO]; · iexact HO
  unfold slotsEnd
  iintro ⟨⟨Hs1, Hs0, Hob⟩, Hcr, HO⟩
  ihave Hcr := ((Entails.of_eq (sepL_finRange (grpOut (F := F) d))).trans (Entails.of_eq (over_groups (sentCred (F := F) d)).symm)) $$ Hcr
  -- the rows
  ihave HdR := (Entails.of_eq (over_xf (F := F) (fun x => due d (kR x)))) $$ HdR
  icases HdR with ⟨HdR0, HdR⟩
  ihave HdR := (Entails.of_eq (over_rows (F := F) (fun x => due d (kR (.inr x))))) $$ HdR
  ihave Hob := (ob_split m d) $$ Hob
  ihave Hout := (out_split m d) $$ [Ho HvO]
  · isplitl [Ho] <;> iassumption
  iapply (wp_pRows m K d)
  isplitl [HdR0]; · iexact HdR0
  isplitl [HdR Hob Hout]
  · iapply (rows_in (fun r => bigSep Finset.univ fun g => due d (kR (.inr (g, r)))) (fun r => iprop(obStr m d (stripeOf r 0) ∗ obStr m d (stripeOf r 1))) (outSlot d))
    isplitl [HdR]; · iexact HdR
    isplitl [Hob] <;> iassumption
  isplitl [HO]
  · isplitr <;> iassumption
  iintro ⟨Hrows, HrsA, HzR0, ⟨-, HO⟩⟩
  ihave Hrows := (show (bigSep Finset.univ fun r => rowOut m d r) ⊢ _ from rows_out (outFly m d) (rbRow m d) (fun r => bigSep Finset.univ fun g => semVal (kcell (d, kR (.inr (g, r)))) 0)) $$ Hrows
  icases Hrows with ⟨Hfly, Hrb, HzR⟩
  ihave HzR := (Entails.of_eq (over_rows (F := F) (fun x => semVal (kcell (d, kR (.inr x))) 0)).symm) $$ HzR
  -- the last waits
  iapply (wp_pDrain m K d)
  isplitl [Hfly]; · iexact Hfly
  isplitl [Hcr HatS]
  · iapply (Entails.of_eq (over_groups (fun x => due (F := F) d (kS x))))
    unfold due
    rw [big_sep]
    isplitl [Hcr]
    · unfold sentCred; iexact Hcr
    iexact HatS
  isplitl [HO]
  · isplitr <;> iassumption
  iintro ⟨Hhome, Hsent, ⟨-, HO⟩⟩
  ihave Hsent := (Entails.of_eq (over_groups (fun x => got m d (kS x))).symm) $$ Hsent
  ihave Hsent := (show (bigSep Finset.univ fun x => got m d (kS x)) ⊢ _ from Entails.of_eq (big_sep Finset.univ (fun x => pay m d (kS x)) (fun x => semVal (kcell (d, kS x)) 0))) $$ Hsent
  icases Hsent with ⟨Hpay, HzS⟩
  ihave Hbs := (show (bigSep Finset.univ fun x => pay m d (kS x)) ⊢ _ from bufs_join (F := F) d) $$ Hpay
  icases Hbs with ⟨Hsb, Hss⟩
  ihave Hhome := (out_join m d) $$ Hhome
  icases Hhome with ⟨Ho, Hob, HvO⟩
  ihave Hsl := (slots_stop m d) $$ [Hs1 Hs0]
  · isplitl [Hs1] <;> iassumption
  icases Hsl with ⟨HW, Hwb, HvL⟩
  ihave Hrb := (rb_join m d) $$ Hrb
  unfold wpd; rw [wp_ret]; imodintro
  iapply Hk
  isplitr [HO Hx]
  · unfold done scratch
    isplitl [HW Ho]
    · isplitl [HW] <;> iassumption
    isplitl [HvL HvO]
    · isplitl [HvL] <;> iassumption
    isplitl [HzS]; · iexact HzS
    isplitl [HzR0 HzR]
    · iapply (Entails.of_eq (over_xf (F := F) (fun x => semVal (kcell (d, kR x)) 0)).symm)
      isplitl [HzR0] <;> iassumption
    isplitl [HzB]; · iexact HzB
    isplitl [Hob]; · iexists _; iexact Hob
    isplitl [Hwb]; · iexact Hwb
    isplitl [Hsb]; · iexact Hsb
    isplitl [Hrb]; · iexact Hrb
    isplitl [Hss]; · iexact Hss
    unfold rsAll
    icases HrsA with ⟨%f, -, H⟩
    iexists f; iexact H
  isplitl [HO] <;> iassumption

end Cert.KernelIdeal.Exchange

end
-- ==== Proof.Ideal.Launch.lean ====
/- The launch: the exchange's records dealt to the devices, and the run of the whole program. -/
module

public import proofs.«01_k».proof.Proof.Ideal.Run
public import Idealize.ShloMosaic.Lib.Pipeline.CollectiveSegs
public import Idealize.ShloMosaic.Lib.Pipeline.KitQuiescent
public import Idealize.ShloMosaic.Lib.Quiescent
public import Idealize.ShloMosaic.Adequacy
public import Idealize.ShloMosaic.Init

@[expose] public section

noncomputable section

namespace Cert.KernelIdeal.Exchange

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : Mem F) (ρ : Dev nD → PrngReg) (c : Dev nD)

/-! ## The pipeline's data -/

/-- What a device holds when its one point begins. -/
def start₀ : sProp 𝕄 := iprop(∃ K, start m K c)
def Φ₀ : sProp 𝕄 := iprop(start₀ m c ∗ scratch c)

def dats (_ : Fin 1) (c : Dev nD) : Dat τ (Elt F) Unit ℕ UU ℕ cfg0 c where
  A w := m ((cfg0.win w).arr.view.loc (c : Thread nD τ))
  after w _ := match w with
    | ⟨0, _⟩ => xstg m c
  Φ t := match t with
    | ⟨0, _⟩ => Φ₀ m c
    | ⟨_ + 1, _⟩ => done m c
  q _ := fullShare
  owed t := match t with
    | ⟨0, _⟩ => O₀ c
    | ⟨_ + 1, _⟩ => 0

theorem owns_whole_eq (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns; simp only [Memref.view_whole, View.read_whole, View.set_whole]

/-- The staged rows, held at given contents. -/
abbrev stg (X : (cc0_stg0_0 : Ref sig .tc).ty.Contents (Elt F)) : sProp 𝕄 := iprop(∃ f : Buf (Elt F) (xL c), ⌜f = X⌝ ∗ (xL c ↦{fullShare} f))

def bodyPre : sProp 𝕄 :=
  iprop(Φ₀ m c ∗ (dats m 0 c).owesAt () t0_0.castSucc ∗ (∃ d, stg c ((dats m 0 c).before (0 : Fin 1) t0_0 d)))
def bodyPost : sProp 𝕄 := iprop(done m c ∗ (dats m 0 c).owesAt () t0_0.succ ∗ stg c (xstg m c))

theorem before_x (d) : (dats m 0 c).before (0 : Fin 1) t0_0 d = xstg m c := by
  unfold Dat.before; rw [if_pos (fetch0_0 t0_0)]; rfl

theorem body_step : bodyPre m c ⊢ wpd c (pBody mX) (fun _ => bodyPost m c) := by
  unfold bodyPre bodyPost Φ₀ start₀ Dat.owesAt Pipeline.owesWithin
  rw [show (dats m 0 c).owed t0_0.castSucc = O₀ c from rfl, show (dats m 0 c).owed t0_0.succ = 0 from rfl]
  iintro ⟨⟨⟨%K, Hs⟩, Hscr⟩, ⟨%W, %hW, HO⟩, ⟨%d, %f, %hf, Hx⟩⟩
  rw [before_x] at hf
  subst hf
  iapply (wp_body m K c)
  isplitl [Hs]; · iexact Hs
  isplitl [Hscr]; · iexact Hscr
  isplitl [HO]; · unfold ow; iexists W; iexact HO
  isplitl [Hx]; · iexact Hx
  unfold ow
  iintro ⟨Hd, ⟨%W', HO⟩, Hx⟩
  isplitl [Hd]; · iexact Hd
  isplitl [HO]
  · iexists W'
    isplitr; · ipureintro; exact fun _ _ => Or.inl trivial
    iexact HO
  iexists _; isplitr; · (ipureintro; rfl)
  iexact Hx

set_option maxRecDepth 65536 in
theorem body_obligation : BodyObligation (dats (F := F) m 0 c) (defs₀ (F := F)) 𝒱₀ () Set.univ := fun t => by
  rw [fin_N0 t]
  rw [bigSep_W0, bigSep_W0]
  simp only [owns_whole_eq]
  show bodyPre m c ⊢ wpd c (cc0_body (F := F) mX (Memref.isWhole_whole _) mW (Memref.isWhole_whole _) mO (Memref.isWhole_whole _) mOb (Memref.isWhole_whole _)
      mWb (Memref.isWhole_whole _) mSb (Memref.isWhole_whole _) mRb (Memref.isWhole_whole _) mSs (Memref.isWhole_whole _)
      mRs (Memref.isWhole_whole _) cc0_scratch6 cc0_scratch7 cc0_scratch8 cc0_scratch9 cc0_scratch10 cc0_scratch11) (fun _ => bodyPost m c)
  rw [body_eq]
  exact body_step m c

/-! ## The semaphores -/

/-- The kernel's own semaphores: of the copies in, of the copies out, of the exchange. -/
abbrev OK : Type := (Fin 2 ⊕ Fin 8) ⊕ (Xf ⊕ Xf)
def osem : OK → SemLoc sig
  | .inl (.inl p) => .dma (semLdP p)
  | .inl (.inr r) => .dma (semOut r)
  | .inr y => csem (.inr y)

theorem ownSemFacts : Pipeline.OwnSemFacts cfg0.spec osem :=
  ⟨by decide +kernel, by decide +kernel, by decide +kernel⟩

theorem share_eq (w : Fin cfg0.W) : (dats m 0 c).share w = fullShare := by unfold Dat.share; split <;> rfl

theorem ownSems0_eq : (Pipeline.ownSems0 (Ix := Unit) (Name := ℕ) (U := UU) (Lvl := ℕ) (Val := Elt F) (τ := τ) osem c : sProp 𝕄)
    = iprop(iprop(loadSems c ∗ outSems c) ∗ (bigSep Finset.univ fun x => semVal (kcell (c, kS x)) 0) ∗ (bigSep Finset.univ fun x => semVal (kcell (c, kR x)) 0)) := by
  unfold Pipeline.ownSems0; rw [bigSep_univ_sum, bigSep_univ_sum, bigSep_univ_sum]; rfl
theorem unscopedSems0_eq : (unscopedSems0 c : sProp 𝕄) = semVal (barCell c) 0 := by
  unfold unscopedSems0; rw [bigSep_eq_bigSepL_of_eq [SemLoc.reg barSem] (by decide +kernel) (by decide)]; rfl

theorem over_ck (Φ : CK → sProp 𝕄) : bigSep Finset.univ Φ
    = iprop(Φ (.inl ()) ∗ (bigSep Finset.univ fun x => Φ (kS x)) ∗ (bigSep Finset.univ fun x => Φ (kR x))) := by
  rw [bigSep_univ_sum, bigSep_univ_sum, bigSep_univ_eq_bigSepL [()] (by decide) (by decide)]; rfl

theorem sems0 : iprop(Pipeline.ownSems0 (Ix := Unit) (Name := ℕ) (U := UU) (Lvl := ℕ) (Val := Elt F) (τ := τ) osem c ∗ unscopedSems0 c)
    ⊢ (iprop(iprop(loadSems c ∗ outSems c) ∗ bigSep Finset.univ fun k : CK => semVal (kcell (c, k)) 0) : sProp 𝕄) := by
  rw [ownSems0_eq, unscopedSems0_eq, over_ck]
  iintro ⟨⟨HL, HS, HR⟩, HB⟩
  isplitl [HL]; · iexact HL
  isplitl [HB]; · iexact HB
  isplitl [HS] <;> iassumption

/-! ## The records -/

def cells : Finset (GSem nD τ sig) := Finset.univ.map ⟨kcell, kcell_inj⟩
abbrev tokOf (ck : Dev nD × CK) : GSem nD τ sig × ℕ × Unit := (kcell ck, 0, ())
theorem tokOf_inj : Function.Injective tokOf := fun a b h => kcell_inj (congrArg Prod.fst h)
def dealt : Finset (GSem nD τ sig × ℕ × Unit) := Finset.univ.map ⟨tokOf, tokOf_inj⟩

def u₀ : UU := (initOf (Pipeline.cells cfgs cellOf_inj) (Pipeline.launchToks cfgs cellOf_inj), (initOf cells dealt, 1))

/-- What the launch deals a device: the state of its cells, its positions, the tokens of its cells. -/
def G : sProp 𝕄 :=
  iprop((bigSep Finset.univ fun k : CK => roundState (ER F) (Rd m) (kcell (c, k)) 0)
    ∗ iprop((bigSep Finset.univ fun k : CK => atPos (ER F) (kcell (c, k)) 0 ∅ 0) ∗ (bigSep Finset.univ fun k : CK => reached (ER F) (kcell (c, k)) 0))
    ∗ (bigSep Finset.univ fun k : CK => dutyTok (ER F) (kcell (c, k)) 0 ()))

theorem per_dev (Φ : Dev nD × CK → sProp 𝕄) : bigSep Finset.univ Φ = bigSep Finset.univ fun c : Dev nD => bigSep Finset.univ fun k : CK => Φ (c, k) :=
  bigSep_univ_prod Φ

theorem fund : BI.own ((ER F) (initOf cells dealt)) ⊢ (|==> bigSep Finset.univ (G m) : sProp 𝕄) := by
  have hX (Φ : GSem nD τ sig → sProp 𝕄) : bigSep cells Φ = bigSep Finset.univ fun c : Dev nD => bigSep Finset.univ fun k : CK => Φ (kcell (c, k)) := by
    unfold cells; rw [bigSep_map, per_dev]; rfl
  have hT : bigSep dealt (fun x => (dutyTok (ER F) x.1 x.2.1 x.2.2 : sProp 𝕄)) = bigSep Finset.univ fun c : Dev nD => bigSep Finset.univ fun k : CK => dutyTok (ER F) (kcell (c, k)) 0 () := by
    unfold dealt; rw [bigSep_map, per_dev]; rfl
  iintro HX
  imod (Rounds.fund (ER F) (Rd m) cells dealt) $$ HX with ⟨Hst, Hr, Hat, Htok⟩
  imodintro
  ihave Hst := (Entails.of_eq (hX fun g => roundState (ER F) (Rd m) g 0)) $$ Hst
  ihave Hat := (Entails.of_eq (hX fun g => atPos (ER F) g 0 ∅ 0)) $$ Hat
  ihave Hr := (Entails.of_eq (hX fun g => reached (ER F) g 0)) $$ Hr
  ihave Htok := (Entails.of_eq hT) $$ Htok
  unfold G
  rw [big_sep, big_sep, big_sep]
  isplitl [Hst]; · iexact Hst
  isplitl [Hat Hr]
  · isplitl [Hat] <;> iassumption
  iexact Htok

/-- The cells of a device opened. -/
theorem core_alloc :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv (ER F) (Rd m) κ (kcell (c, k))))
          ∗ (bigSep Finset.univ fun k : CK => reached (ER F) (kcell (c, k)) 0)
          ∗ iprop(loadSems c ∗ outSems c) ∗ (bigSep Finset.univ fun k : CK => atPos (ER F) (kcell (c, k)) 0 ∅ 0)
          ∗ (bigSep Finset.univ fun k : CK => dutyTok (ER F) (kcell (c, k)) 0 ())) := by
  unfold G
  iintro ⟨Hos, Hus, Hst, ⟨Hat, Hr⟩, Htok⟩
  ihave Hv := (sems0 (F := F) c) $$ [Hos Hus]
  · isplitl [Hos] <;> iassumption
  icases Hv with ⟨Hlo, Hv⟩
  imod (show iprop((bigSep Finset.univ fun k : CK => semVal (kcell (c, k)) 0) ∗ bigSep Finset.univ fun k : CK => roundState (ER F) (Rd m) (kcell (c, k)) 0)
      ⊢ (|={Set.univ}=> bigSep Finset.univ fun k => iprop(∃ κ : ℕ, cellInv (ER F) (Rd m) κ (kcell (c, k))) : sProp 𝕄) from by
        rw [← big_sep]
        exact (bigSep_mono fun k _ => (Rounds.body_intro (ER F) (Rd m) (kcell (c, k))).trans inv_alloc).trans (bigSep_fupd _ _)) $$ [Hv Hst] with Hinv
  · isplitl [Hv] <;> iassumption
  imodintro
  isplitl [Hinv]; · iexact Hinv
  isplitl [Hr]; · iexact Hr
  isplitl [Hlo]; · iexact Hlo
  isplitl [Hat] <;> iassumption

/-- What stays with a device: its semaphores, its positions and the tokens of the duties it pays. -/
def linear : sProp 𝕄 :=
  iprop(iprop(loadSems c ∗ outSems c) ∗ (bigSep Finset.univ fun k : CK => atPos (ER F) (kcell (c, k)) 0 ∅ 0)
    ∗ iprop(dutyTok (ER F) (barCell (peer c)) 0 () ∗ (bigSep Finset.univ (toks (F := F) c))))
def G' : sProp 𝕄 := iprop(∃ K, shared m K ∗ linear c)

theorem toks_around : (bigSep Finset.univ fun c : Dev nD => (bigSep Finset.univ fun k : CK => dutyTok (ER F) (kcell (c, k)) 0 () : sProp 𝕄))
    ⊢ bigSep Finset.univ fun c : Dev nD => iprop(dutyTok (ER F) (barCell (peer c)) 0 () ∗ (bigSep Finset.univ (toks (F := F) c))) := by
  have h1 : ∀ c : Dev nD, (bigSep Finset.univ fun k : CK => dutyTok (ER F) (kcell (c, k)) 0 () : sProp 𝕄) = _ := fun c => over_ck _
  have h2 : ∀ c : Dev nD, (bigSep Finset.univ (toks (F := F) c)) = _ := fun c => big_sep Finset.univ (fun x => dutyTok (ER F) (sendCell c x) 0 ()) (fun x => dutyTok (ER F) (recvCell (peer c) x) 0 ())
  rw [bigSep_congr fun c _ => h1 c, big_sep, big_sep, big_sep, bigSep_congr (s := Finset.univ) (fun (c : Dev nD) _ => h2 c), big_sep,
    bigSep_univ_equiv swap (fun c : Dev nD => (dutyTok (ER F) (barCell c) 0 () : sProp 𝕄)),
    bigSep_univ_equiv swap (fun c : Dev nD => (bigSep Finset.univ fun x => dutyTok (ER F) (recvCell c x) 0 () : sProp 𝕄))]
  exact .rfl

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← big_sep]; exact bigSep_mono h)

theorem three (A B C : Dev nD → sProp 𝕄) : iprop(bigSep Finset.univ A ∗ bigSep Finset.univ B ∗ bigSep Finset.univ C)
    ⊢ bigSep Finset.univ fun c => iprop(A c ∗ B c ∗ C c) := by
  rw [big_sep Finset.univ A, big_sep Finset.univ B C]

theorem regroup :
    (bigSep Finset.univ fun c : Dev nD => iprop((bigSep Finset.univ fun k : CK => iprop(∃ κ : ℕ, cellInv (ER F) (Rd m) κ (kcell (c, k))))
          ∗ (bigSep Finset.univ fun k : CK => reached (ER F) (kcell (c, k)) 0)
          ∗ iprop(loadSems c ∗ outSems c) ∗ (bigSep Finset.univ fun k : CK => atPos (ER F) (kcell (c, k)) 0 ∅ 0)
          ∗ (bigSep Finset.univ fun k : CK => dutyTok (ER F) (kcell (c, k)) 0 ())) : sProp 𝕄)
      ⊢ bigSep Finset.univ (G' m) := by
  classical
  rw [big_sep, big_sep, big_sep Finset.univ (fun c => iprop(loadSems c ∗ outSems c)), big_sep Finset.univ (fun c => bigSep Finset.univ fun k : CK => atPos (ER F) (kcell (c, k)) 0 ∅ 0),
    ← per_dev (fun ck : Dev nD × CK => iprop(∃ κ : ℕ, cellInv (ER F) (Rd m) κ (kcell ck))),
    ← per_dev (fun ck : Dev nD × CK => (reached (ER F) (kcell ck) 0 : sProp 𝕄))]
  iintro ⟨HI, HR, Hlo, Hat, Htok⟩
  ihave HK := (BI.bigSep_exists_pi Finset.univ (fun (ck : Dev nD × CK) (κ : ℕ) => (cellInv (ER F) (Rd m) κ (kcell ck) : sProp 𝕄))) $$ HI
  icases HK with ⟨%K, HI⟩
  ihave Htok := (toks_around (F := F)) $$ Htok
  ihave Hsh := (show iprop((bigSep Finset.univ fun ck : Dev nD × CK => cellInv (ER F) (Rd m) (K ck) (kcell ck)) ∗ bigSep Finset.univ fun ck : Dev nD × CK => reached (ER F) (kcell ck) 0)
      ⊢ (shared m K : sProp 𝕄) from Entails.of_eq (big_sep Finset.univ _ _).symm) $$ [HI HR]
  · isplitl [HI] <;> iassumption
  iapply (with_persistent (R := shared m K) (Φ := linear (F := F)) (Ψ := G' m) fun c _ => by
    unfold G'; iintro H; iexists K; iexact H)
  isplitl [Hsh]; · iexact Hsh
  iapply (three (fun c => iprop(loadSems c ∗ outSems c)) (fun c => bigSep Finset.univ fun k : CK => atPos (ER F) (kcell (c, k)) 0 ∅ 0)
    (fun c => iprop(dutyTok (ER F) (barCell (peer c)) 0 () ∗ (bigSep Finset.univ (toks (F := F) c)))))
  isplitl [Hlo]; · iexact Hlo
  isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

theorem cell_eq {a b : Dev nD} {k k' : CK} : Iff (kcell (a, k) = kcell (b, k')) (a = b ∧ k = k') :=
  ⟨fun h => by have := kcell_inj h; exact ⟨congrArg Prod.fst this, congrArg Prod.snd this⟩, fun h => by rw [h.1, h.2]⟩

theorem peer_iff (d c : Dev nD) : c = peer d ↔ d = peer c :=
  ⟨fun h => by rw [h, peer_peer], fun h => by rw [h, peer_peer]⟩

/-- How often a transfer stands in a list. -/
def times (l : List Xf) (x : Xf) : ℕ := l.countP fun y => decide (y = x)

theorem owed_list (d : Dev nD) (l : List Xf) (x : Xf) : Ol d l (recvCell c x) () = if d = peer c then times l x * N x else 0 := by
  induction l with
  | nil => rw [show times [] x = 0 from rfl, Nat.zero_mul, ite_self]; rfl
  | cons y l ih =>
    change (Ol d l + tallyAt (recvCell (peer d) y) () (N y)) (recvCell c x) () = _
    rw [Pi.add_apply, Finsupp.add_apply, tallyAt_apply, ih, show times (y :: l) x = _ from List.countP_cons]
    by_cases hd : d = peer c
    · rw [if_pos hd, if_pos hd]
      by_cases hx : y = x
      · subst hx
        rw [if_pos ⟨cell_eq.2 ⟨(peer_iff d c).2 hd, rfl⟩, rfl⟩, if_pos (decide_eq_true rfl), Nat.add_mul, Nat.one_mul]; rfl
      · rw [if_neg (fun h => hx (by have := (cell_eq.1 h.1).2; injection this with h; injection h with h; exact h.symm)), if_neg (by rw [decide_eq_true_eq]; exact hx)]
        rfl
    · rw [if_neg hd, if_neg hd, if_neg (fun h => hd ((peer_iff d c).1 (cell_eq.1 h.1).1))]

theorem count_one (x : Xf) : times xs0 x = 1 := by revert x; decide +kernel

theorem owed_recv (d : Dev nD) (x : Xf) : O₀ d (recvCell c x) () = if d = peer c then N x else 0 := by
  unfold O₀
  rw [Pi.add_apply, Finsupp.add_apply, owed_list, count_one, Nat.one_mul, tallyAt_apply,
    if_neg (show ¬ (recvCell c x = barCell (peer d) ∧ () = ()) from fun h => by cases (cell_eq.1 h.1).2), Nat.add_zero]
theorem owed_bar (d : Dev nD) : O₀ d (barCell c) () = if d = peer c then 1 else 0 := by
  unfold O₀
  rw [Pi.add_apply, Finsupp.add_apply, tallyAt_apply, Nat.eq_zero_of_not_pos (fun h => by obtain ⟨x, h⟩ := Ol_pos h; cases (cell_eq.1 h).2 : ¬ 0 < Ol d xs0 (barCell c) ()), Nat.zero_add]
  by_cases hd : d = peer c
  · rw [if_pos ⟨cell_eq.2 ⟨(peer_iff d c).2 hd, rfl⟩, rfl⟩, if_pos hd]
  · rw [if_neg (fun h => hd ((peer_iff d c).1 (cell_eq.1 h.1).1)), if_neg hd]

theorem launch_recv (x : Xf) :
    tallyOn (recvCell c x) (launchCredit (Pipeline.owing O₀) 0 (recvCell c x)) = (tallyAt (recvCell c x) () (N x) : CellTallies nD τ sig Unit) := by
  unfold tallyAt; refine congrArg _ (Finsupp.ext fun u => ?_); cases u
  rw [Pipeline.launchCredit_owing, Finsupp.single_eq_same, Finset.sum_congr rfl fun d _ => owed_recv c d x, Finset.sum_ite_eq' Finset.univ (peer c) fun _ => N x,
    if_pos (Finset.mem_univ _)]
theorem launch_bar :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar c d, Finset.sum_ite_eq' Finset.univ (peer c) fun _ => 1,
    if_pos (Finset.mem_univ _)]

theorem creds : (Pipeline.launchCred O₀ c : sProp 𝕄)
    ⊢ iprop(cred (tallyAt (barCell c) () 1) ∗ (bigSep Finset.univ fun x => cred (tallyAt (recvCell c x) () (N x)))) := by
  unfold Pipeline.launchCred
  refine (bigSep_subset (Finset.subset_univ (Finset.univ.map ⟨csem, csem_inj⟩))).trans ?_
  refine (Entails.of_eq ((bigSep_map _).trans (over_ck (fun k : CK => cred (tallyOn (kcell (c, k)) (launchCredit (Pipeline.owing O₀) 0 (kcell (c, k)))))))).trans ?_
  iintro ⟨HB, -, HR⟩
  isplitl [HB]
  · rw [← launch_bar]; iexact HB
  rw [bigSep_congr (s := Finset.univ) (fun (x : Xf) _ => congrArg (fun t => (cred t : sProp 𝕄)) (launch_recv c x).symm)]
  iexact HR

/-! ## The run -/

theorem rest_eq : (Pipeline.unscopedRestP (Ix := Unit) (Name := ℕ) (U := UU) (Lvl := ℕ) Pipeline.Prefetch.none cfg0.spec c (fun b => m ((c : Thread nD τ).loc b)) : sProp 𝕄)
    = iprop((wL c ↦{fullShare} m (wL c)) ∗ (oL c ↦{fullShare} m (oL c))) := by
  rw [Pipeline.unscopedRestP_none, unscopedRest0_eq]

theorem start_intro :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start₀ m c ∗ emp) := by
  rw [rest_eq]
  unfold G' linear
  rw [over_ck]
  iintro ⟨Hmem, Hlev, Hcr, -, ⟨%K, Hsh, Hlo, ⟨HaB, HaS, HaR⟩, HtB, Htok⟩⟩
  ihave Hc := (creds (F := F) c) $$ Hcr
  icases Hc with ⟨HcB, HcR⟩
  imodintro
  isplitl
  · unfold start₀ start
    iexists K
    isplitl [Hsh Hlev]
    · isplitl [Hsh] <;> iassumption
    isplitl [HtB]; · iexact HtB
    isplitl [HcB HaB]
    · unfold due; isplitl [HcB]; · iexact HcB
      iexact HaB
    isplitl [Htok]; · iexact Htok
    isplitl [HcR HaR]
    · unfold due; rw [big_sep]
      isplitl [HcR]; · iexact HcR
      iexact HaR
    isplitl [HaS]; · iexact HaS
    isplitl [Hmem]; · iexact Hmem
    iexact Hlo
  · iempintro

theorem phi0_intro :
    iprop(start₀ m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

/-- What is read off at the end: the barrier's counter, the weights and the result. -/
def fin : sProp 𝕄 := iprop(unscopedSems0 c ∗ iprop((wL c ↦{fullShare} m (wL c)) ∗ (oL c ↦{fullShare} outF m c)))

theorem phi1_exit : (dats m 0 c).Φ (Fin.last cfg0.N) ⊢ iprop(fin m c ∗ Pipeline.ownSems0 osem c ∗ Pipeline.scopedRest cfg0.spec c) := by
  rw [show (dats m 0 c).Φ (Fin.last cfg0.N) = done m c from rfl, scopedRest0_eq, ownSems0_eq]
  unfold done fin scratch
  rw [unscopedSems0_eq]
  iintro ⟨Hm, Hlo, HS, HR, HB, Hscr⟩
  isplitl [Hm HB]
  · isplitl [HB] <;> iassumption
  isplitl [Hlo HS HR]
  · isplitl [Hlo]; · iexact Hlo
    isplitl [HS] <;> iassumption
  iexact Hscr

theorem waits : (levAts L lv : sProp 𝕄) ⊢ Pipeline.cellsWaits cfgs (dats m) () 0 c :=
  Pipeline.cellsWaits_intro cfgs (dats m) () 0 c fun w s t => by
    have h : lv ((c : Thread nD τ), .dma ((cfg0.win w).sem s)) () = 0 := lv_other c _ (by revert w s; decide +kernel)
    rcases t with ⟨_ | _, ht⟩
    · exact mayWait_o0 c _ (le_of_eq h)
    · exact mayWait_ol c _ [] (le_of_eq_of_le h (Nat.zero_le _))

/-- What a device's memory ends with. -/
def Fin₀ (s : MemSt nD τ sig (Elt F)) : Prop :=
  s.mem (wL c) = m (wL c) ∧ s.mem (oL c) = outF m c ∧ ∀ sm : SemLoc sig, sm.isScoped .tc = false → s.sem ((c.tc : Thread nD τ), sm) = 0

theorem fin_read (s' : Phys nD τ sig (Elt F)) : iprop(fin m c ∗ SI s') ⊢ (|={Set.univ}=> iprop(⌜Fin₀ m c s'.mem⌝ ∗ SI s') : sProp 𝕄) := by
  unfold fin
  iintro ⟨⟨Hu, HW, Ho⟩, HSI⟩
  icombine HSI HW gives %hW
  icombine HSI Ho gives %ho
  imod (Pipeline.unscopedSems0_read (X := unscopedSems0 c) (c := c) fupd_intro s') $$ [Hu HSI] with ⟨%hu, HSI⟩
  · isplitl [Hu] <;> iassumption
  imodintro
  isplitr
  · ipureintro; exact ⟨Buf.eq_of_forall_mem_univ hW, Buf.eq_of_forall_mem_univ ho, hu⟩
  iexact HSI

set_option maxRecDepth 65536 in
/-- The program runs from any memory with every counter zero, and every final state has the result in place, the
    arguments as they were and every counter zero. -/
theorem run_main : θ_run (defs (F := F)) (onTc (τ := τ) (main (F := F))) ⟨m, fun _ => 0, ρ⟩ (fun r => (∀ c : Dev nD,
    r.2.mem ((c.tc : Thread nD τ).loc main_v1) = outF m c
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) (EP F) defs₀ 𝒱₀ m ρ main
    (hmain := fun _ => rfl)
    (hbody := body_obligation m) (hne := fun w => by fin_cases w; exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave HX := (own_pair_emb _ _ _) $$ HX
      icases HX with ⟨HX, -⟩
      imod (fund m) $$ HX with HG
      imodintro
      isplitl [HP] <;> iassumption)
    (hglob := glob m)
    (hA := fun _ _ => rfl) (hpf := fun _ k => k.elim0)
    (X := start₀ m) (Y := fin m) (Z := fun _ => iprop(emp))
    (hX := start_intro m ρ) (hin := phi0_intro m) (hout := phi1_exit m)
    (QY := fun c s => Fin₀ m c s)
    (hY := fun c s' => by
      iintro ⟨Hu, -, HSI⟩
      iapply (fin_read m c s')
      isplitl [Hu] <;> iassumption)
    (hQ := fun _ h hs => ⟨fun c => ⟨(h c).2.2.2.1, ((h c).1 0).trans ((dats m 0 c).arrAt_in 0 rfl _), (h c).2.2.1⟩, sem_eq_zero hs fun c => (h c).2.2.2.2⟩)

end Cert.KernelIdeal.Exchange

end
-- ==== Proof.Value.Spec.lean ====
/- What a pair of devices computes, on the extended reals and by coordinates: the quantiser of a block of 512 logits,
   the rows with one half passed through it, and their softmax. -/
module

public import Idealize.ShloMosaic.PureOps.Ideal.Laws
public import Idealize.ShloMosaic.Lib.ValueIdx
public import Idealize.ShloMosaic.Lib.IdealHost
public import Idealize.ShloMosaic.Lib.KernelVsHost
public import Idealize.ShloMosaic.Lib.MatmulPlain
public import Idealize.ShloMosaic.Lib.StackMember
public import Idealize.ShloMosaic.Lib.Pipeline.Value
public import Idealize.ShloMosaic.Lib.ValueLayout

@[expose] public section

noncomputable section

namespace Cert.Spec

open Idealize.ShloMosaic

/-- The word from which maxima start. -/
def low : EReal := Ideal.ofBits .f32 0xFF800000#32
/-- The largest of finitely many values. -/
def top {n : ℕ} (v : Fin n → EReal) : EReal := (Finset.univ : Finset (Fin n)).fold max low v
/-- A block's scale. -/
def scale (v : Fin 512 → EReal) : EReal :=
  max (Ideal.div (top fun k => max (v k) (-(v k))) (Ideal.ofBits .f32 0x42FE0000#32)) (Ideal.ofBits .f32 0x0DA24260#32)
/-- A logit as an 8-bit integer, at a scale, -/
def quant (x s : EReal) : BitVec 8 := Ideal.fptosi 8 (Ideal.liftRound Ideal.roundHalfEven (Ideal.div x s))
/-- and rebuilt. -/
def rebuilt (x s : EReal) : EReal := (((quant x s).toInt : ℝ) : EReal) * s

/-- Column `k` of the block that column `j` is in. -/
def blk (j : Fin 16384) (k : Fin 512) : Fin 16384 := ⟨512 * (j.val / 512) + k.val, by omega⟩
/-- A row after the quantiser. -/
def through (l : Fin 16384 → EReal) (j : Fin 16384) : EReal := rebuilt (l j) (scale fun k => l (blk j k))
/-- A row whose half `x` alone has not been through it. -/
def mixed (x : ℕ) (l : Fin 16384 → EReal) (j : Fin 16384) : EReal := if j.val / 8192 = x then l j else through l j
/-- The softmax of a row. -/
def soft (h : Fin 16384 → EReal) (j : Fin 16384) : EReal :=
  Ideal.div (Ideal.exp (h j - top h)) (∑ k : Fin 16384, Ideal.exp (h k - top h))

/-- Column `k` of half `x`. -/
def half (x : ℕ) (hx : x ≤ 1) (k : Fin 8192) : Fin 16384 := ⟨8192 * x + k.val, by omega⟩

theorem top_le {n : ℕ} (v : Fin n → EReal) (c : EReal) : top v ≤ c ↔ low ≤ c ∧ ∀ k, v k ≤ c := by
  unfold top; rw [Finset.fold_max_le]; simp

theorem half_cases (x : ℕ) (hx : x ≤ 1) (j : Fin 16384) :
    (∃ k, j = half x hx k) ∨ ∃ k, j = half (1 - x) (Nat.sub_le 1 x) k := by
  have := j.isLt
  by_cases h : j.val / 8192 = x
  · exact .inl ⟨⟨j.val % 8192, by omega⟩, Fin.ext (by simp only [half]; omega)⟩
  · exact .inr ⟨⟨j.val % 8192, by omega⟩, Fin.ext (by simp only [half]; omega)⟩

/-- The largest of a row is the larger of its halves' largest, -/
theorem top_halves (h : Fin 16384 → EReal) (x : ℕ) (hx : x ≤ 1) :
    top h = max (top fun k => h (half x hx k)) (top fun k => h (half (1 - x) (Nat.sub_le 1 x) k)) := by
  refine eq_of_forall_ge_iff fun c => ?_
  rw [max_le_iff, top_le, top_le, top_le]
  refine ⟨fun ⟨a, b⟩ => ⟨⟨a, fun k => b _⟩, a, fun k => b _⟩, fun ⟨⟨a, b⟩, _, b'⟩ => ⟨a, fun j => ?_⟩⟩
  rcases half_cases x hx j with ⟨k, rfl⟩ | ⟨k, rfl⟩
  · exact b k
  · exact b' k

/-- and its sum that of theirs. -/
theorem sum_halves (f : Fin 16384 → EReal) (x : ℕ) (hx : x ≤ 1) :
    ∑ j, f j = (∑ k, f (half x hx k)) + ∑ k, f (half (1 - x) (Nat.sub_le 1 x) k) := by
  have e := Fin.sum_univ_add (a := 8192) (b := 8192) f
  have e0 : ∀ k : Fin 8192, Fin.castAdd 8192 k = half 0 (by omega) k := fun k => Fin.ext (by simp [half])
  have e1 : ∀ k : Fin 8192, Fin.natAdd 8192 k = half 1 (by omega) k := fun k => Fin.ext (by simp [half, Nat.add_comm])
  simp only [e0, e1] at e
  obtain rfl | rfl : x = 0 ∨ x = 1 := by omega
  · exact e
  · rw [add_comm]; exact e

/-! ## The quantiser on the host, which clips before it narrows -/

theorem clip_lo : Ideal.ofBits .f32 0xC3000000#32 = ((-128 : ℝ) : EReal) := by
  simp [Ideal.ofBits, Ideal.ieee, -EReal.coe_mul, -EReal.coe_neg]; norm_num
theorem clip_hi : Ideal.ofBits .f32 0x42FE0000#32 = ((127 : ℝ) : EReal) := by
  simp [Ideal.ofBits, Ideal.ieee, -EReal.coe_mul, -EReal.coe_neg]; norm_num

theorem narrow_fin : ∀ k : Fin 256, (((BitVec.ofInt 32 ((k.val : ℤ) - 128)).setWidth 8).signExtend 32).toInt
    = (BitVec.ofInt 8 ((k.val : ℤ) - 128)).toInt := by decide +kernel
theorem narrow (n : ℤ) (h1 : -128 ≤ n) (h2 : n ≤ 127) :
    (((BitVec.ofInt 32 n).setWidth 8).signExtend 32).toInt = (BitVec.ofInt 8 n).toInt := by
  have := narrow_fin ⟨(n + 128).toNat, by omega⟩
  rwa [show (((⟨(n + 128).toNat, by omega⟩ : Fin 256).val : ℤ) - 128) = n by simp only; omega] at this

theorem fptosi_int (w : ℕ) (n : ℤ) :
    Ideal.fptosi w ((n : ℝ) : EReal) = BitVec.ofInt w (max (-(2 ^ (w - 1) : ℕ)) (min ((2 ^ (w - 1) : ℕ) - 1) n)) := by
  show BitVec.ofInt w (max _ (min _ (if 0 ≤ (n : ℝ) then ⌊(n : ℝ)⌋ else ⌈(n : ℝ)⌉))) = _
  rw [Int.floor_intCast, Int.ceil_intCast, ite_self]

theorem fptosi_wide (n : ℤ) (h1 : -128 ≤ n) (h2 : n ≤ 127) : Ideal.fptosi 32 ((n : ℝ) : EReal) = BitVec.ofInt 32 n := by
  rw [fptosi_int]
  congr 1
  norm_num
  omega

theorem fptosi_byte (n : ℤ) : Ideal.fptosi 8 ((n : ℝ) : EReal) = BitVec.ofInt 8 (min (max n (-128)) 127) := by
  rw [fptosi_int]
  congr 1
  norm_num
  omega

theorem host_quant (y : EReal) :
    (((Ideal.fptosi 32 (min (max (Ideal.liftRound Ideal.roundHalfEven y) (Ideal.ofBits .f32 0xC3000000#32))
      (Ideal.ofBits .f32 0x42FE0000#32))).setWidth 8).signExtend 32).toInt
      = (Ideal.fptosi 8 (Ideal.liftRound Ideal.roundHalfEven y)).toInt := by
  rw [clip_lo, clip_hi]
  induction y using EReal.rec with
  | bot =>
    rw [show Ideal.liftRound Ideal.roundHalfEven ⊥ = ⊥ from rfl, max_eq_right bot_le,
      min_eq_left (EReal.coe_le_coe_iff.2 (by norm_num)),
      show ((-128 : ℝ) : EReal) = (((-128 : ℤ) : ℝ) : EReal) by norm_num, fptosi_wide _ (by norm_num) (by norm_num),
      narrow _ (by norm_num) (by norm_num)]
    rfl
  | top =>
    rw [show Ideal.liftRound Ideal.roundHalfEven ⊤ = ⊤ from rfl, max_eq_left le_top, min_eq_right le_top,
      show ((127 : ℝ) : EReal) = (((127 : ℤ) : ℝ) : EReal) by norm_num, fptosi_wide _ (by norm_num) (by norm_num),
      narrow _ (by norm_num) (by norm_num)]
    rfl
  | coe r =>
    generalize hn : Ideal.roundHalfEven r = n
    have e : Ideal.liftRound Ideal.roundHalfEven (r : EReal) = ((n : ℝ) : EReal) := by rw [← hn]; rfl
    have e' : min (max ((n : ℝ) : EReal) ((-128 : ℝ) : EReal)) ((127 : ℝ) : EReal) = (((min (max n (-128)) 127 : ℤ) : ℝ) : EReal) := by
      have hm : Monotone ((↑) : ℝ → EReal) := EReal.coe_strictMono.monotone
      rw [Int.cast_min, Int.cast_max, hm.map_min, hm.map_max]
      norm_num
    rw [e, e', fptosi_byte, fptosi_wide _ (by omega) (by omega), narrow _ (by omega) (by omega)]

end Cert.Spec

end
-- ==== Proof.Value.Reference.lean ====
/- The reference's result at an index: the softmax of a row with one half passed through the quantiser. -/
module

public import proofs.«01_k».proof.Proof.Value.Spec
public import proofs.«01_k».proof.Proof.Gen.ReferenceIdeal.Run

@[expose] public section

noncomputable section

namespace Cert.ReferenceIdeal.Value

open Cert.ReferenceIdeal Cert.ReferenceIdeal.Gen Idealize.ShloMosaic Idealize.ShloMosaic.TcCoe Idealize.SL.Sem Idealize.ShloMosaic.StableHlo
open Idealize.ShloMosaic.ValueIdx Cert

/-! ## The pieces of the result -/

section Pieces
variable {F : FTy → Type} [FloatOps F]

def lgR (x : FVec F S512x1024 .f32) (w : FVec F S1024x16384 .f32) : FVec F S512x16384 .f32 :=
  Host.dotGeneral dot_S512x1024_S1024x16384_S512x16384_1_0_0_1_n_n none x w
def blocksR (lg : FVec F S512x16384 .f32) : FVec F S512x32x512 .f32 := shapeCast _ lg shapeCasts_S512x16384_S512x32x512
def scaleR (b : FVec F S512x32x512 .f32) : FVec F S512x32x1 .f32 :=
  maximumf (Host.divf (broadcastInDim S512x32x1 ![0, 1] bcast_S512x32_S512x32x1_0_1 (Host.reduce FloatOps.maximumf (Host.absf b) (constant S_ .f32 0xFF800000#32) reducesTo_S512x32x512_S512x32_d2 h_S_)) (broadcastInDim S512x32x1 ![] bcast_S_S512x32x1 (constant S_ .f32 0x42FE0000#32))) (broadcastInDim S512x32x1 ![] bcast_S_S512x32x1 (constant S_ .f32 0x0DA24260#32))
def quantR (b : FVec F S512x32x512 .f32) (s : FVec F S512x32x1 .f32) : IVec S512x32x512 8 :=
  trunci 8 (fptosi 32 (minimumf (maximumf (Host.roundeven (Host.divf b (broadcastInDim S512x32x512 ![0, 1, 2] bcast_S512x32x1_S512x32x512_0_1_2 s))) (broadcastInDim S512x32x512 ![] bcast_S_S512x32x512 (constant S_ .f32 0xC3000000#32))) (broadcastInDim S512x32x512 ![] bcast_S_S512x32x512 (constant S_ .f32 0x42FE0000#32)))) natLt_8_32
def deqR (lg : FVec F S512x16384 .f32) : FVec F S512x16384 .f32 :=
  shapeCast _ (mulf (sitofp .f32 (extsi 32 (quantR (blocksR lg) (scaleR (blocksR lg))) natLt_8_32)) (broadcastInDim S512x32x512 ![0, 1, 2] bcast_S512x32x1_S512x32x512_0_1_2 (scaleR (blocksR lg)))) shapeCasts_S512x32x512_S512x16384
def joinR (a b : FVec F S512x16384 .f32) : FVec F S512x16384 .f32 :=
  concatenate S512x16384 1 [⟨S512x8192, extractStridedSlice S512x8192 ![0, 0] a slices_S512x16384_S512x8192_0_0⟩, ⟨S512x8192, extractStridedSlice S512x8192 ![0, 8192] b slices_S512x16384_S512x8192_0_8192⟩] concatenates_S512x8192_S512x8192_S512x16384_d1
def maxR (h : FVec F S512x16384 .f32) : FVec F S512 .f32 :=
  Host.reduce FloatOps.maximumf h (constant S_ .f32 0xFF800000#32) reducesTo_S512x16384_S512_d1 h_S_
def rowR (v : FVec F S512 .f32) : FVec F S512x16384 .f32 :=
  broadcastInDim S512x16384 ![0, 1] bcast_S512x1_S512x16384_0_1 (broadcastInDim S512x1 ![0] bcast_S512_S512x1_0 v)
def expR (h : FVec F S512x16384 .f32) : FVec F S512x16384 .f32 := Host.exp (subf h (rowR (maxR h)))
def softR (h : FVec F S512x16384 .f32) : FVec F S512x16384 .f32 :=
  Host.divf (expR h) (rowR (Host.reduceAdd (expR h) (constant S_ .f32 0x00000000#32) reducesTo_S512x16384_S512_d1 h_S_))

variable (m : (ℓ : Loc nD τ sig) → Buf (Elt F) ℓ) (c : Dev nD)

abbrev argX : FVec F S512x1024 .f32 := m ((c.tc : Thread nD τ).loc main_arg0)
abbrev argW : FVec F S1024x16384 .f32 := m ((c.tc : Thread nD τ).loc main_arg1)

theorem res_pieces : res_out0 m c = concatenate S1024x16384 0
    [⟨S512x16384, softR (joinR (lgR (argX m c) (argW m c)) (deqR (lgR (argX m c) (argW m c))))⟩,
     ⟨S512x16384, softR (joinR (deqR (lgR (argX m c) (argW m c))) (lgR (argX m c) (argW m c)))⟩]
    concatenates_S512x16384_S512x16384_S1024x16384_d0 := rfl

end Pieces

/-! ## The pieces at an index -/

theorem lgR_at (x : FVec Ideal S512x1024 .f32) (w : FVec Ideal S1024x16384 .f32) (r : Fin 512) (j : Fin 16384) :
    lgR x w (ValueIdx.ix2 (n0 := 512) (n1 := 16384) r j)
      = ∑ k : Fin 1024, x (ValueIdx.ix2 (n0 := 512) (n1 := 1024) r k) * w (ValueIdx.ix2 (n0 := 1024) (n1 := 16384) k j) :=
  StackMember.dotGeneral_plain_apply none x w r j

theorem blocksR_at (lg : FVec Ideal S512x16384 .f32) (r : Fin 512) (b : Fin 32) (k : Fin 512) (j : Fin 16384) (h : j.val = 512 * b.val + k.val) :
    blocksR lg (ValueIdx.ix3 (n0 := 512) (n1 := 32) (n2 := 512) r b k) = lg (ValueIdx.ix2 (n0 := 512) (n1 := 16384) r j) := by
  refine shapeCast_apply _ _ _ _ ?_
  rw [Shape.rowMajor_val_three, Shape.rowMajor_val_two]
  show r.val * 16384 + j.val = (r.val * 32 + b.val) * 512 + k.val
  omega

theorem red3 : S512x32x512.Reduces [2] S512x32 := by decide
theorem red2 : S512x16384.Reduces [1] S512 := by decide

theorem lift3 (r : Fin 512) (b : Fin 32) (k : Fin 512) :
    red3.lift (ValueIdx.ix2 (n0 := 512) (n1 := 32) r b) k = ValueIdx.ix3 (n0 := 512) (n1 := 32) (n2 := 512) r b k := by
  funext a; match a with | ⟨0, _⟩ => rfl | ⟨1, _⟩ => rfl | ⟨2, _⟩ => rfl
theorem lift2 (r : Fin 512) (k : Fin 16384) :
    red2.lift (ValueIdx.ix1 (n := 512) r) k = ValueIdx.ix2 (n0 := 512) (n1 := 16384) r k := by
  funext a; match a with | ⟨0, _⟩ => rfl | ⟨1, _⟩ => rfl

theorem topR3_at (x : FVec Ideal S512x32x512 .f32) (r : Fin 512) (q : Fin 32) :
    Host.reduce FloatOps.maximumf x (constant S_ .f32 0xFF800000#32) reducesTo_S512x32x512_S512x32_d2 h_S_ (ValueIdx.ix2 (n0 := 512) (n1 := 32) r q)
      = Spec.top fun k : Fin 512 => x (ValueIdx.ix3 (n0 := 512) (n1 := 32) (n2 := 512) r q k) := by
  have e := congrFun (hostReduce_maximumf_eq_multiReduction x 0xFF800000#32 reducesTo_S512x32x512_S512x32_d2 h_S_ red3 (.inl rfl) rfl)
    (ValueIdx.ix2 (n0 := 512) (n1 := 32) r q)
  have e' := Ideal.multiReduction_maximumf_single x 0xFF800000#32 red3 (.inl rfl) rfl (ValueIdx.ix2 (n0 := 512) (n1 := 32) r q)
  have f : x ∘ red3.lift (ValueIdx.ix2 (n0 := 512) (n1 := 32) r q)
      = fun k : Fin 512 => x (ValueIdx.ix3 (n0 := 512) (n1 := 32) (n2 := 512) r q k) := funext fun k => congrArg x (lift3 r q k)
  exact e.trans (e'.trans (by rw [f]; rfl))

theorem scaleR_at (b : FVec Ideal S512x32x512 .f32) (r : Fin 512) (q : Fin 32) :
    scaleR b (ValueIdx.ix3 (n0 := 512) (n1 := 32) (n2 := 1) r q 0)
      = Spec.scale fun k => b (ValueIdx.ix3 (n0 := 512) (n1 := 32) (n2 := 512) r q k) := by
  unfold scaleR
  rw [maximumf_apply, hostDivf_apply, broadcastInDim_scalar_apply, broadcastInDim_scalar_apply,
    broadcastInDim_apply _ _ _ _ (ValueIdx.ix2 (n0 := 512) (n1 := 32) r q) (fun a => by match a with | ⟨0, _⟩ => rfl | ⟨1, _⟩ => rfl),
    topR3_at]
  rfl

theorem quantR_at (b : FVec Ideal S512x32x512 .f32) (s : FVec Ideal S512x32x1 .f32) (r : Fin 512) (q : Fin 32) (k : Fin 512) :
    ((quantR b s (ValueIdx.ix3 (n0 := 512) (n1 := 32) (n2 := 512) r q k)).signExtend 32).toInt
      = (Spec.quant (b (ValueIdx.ix3 (n0 := 512) (n1 := 32) (n2 := 512) r q k)) (s (ValueIdx.ix3 (n0 := 512) (n1 := 32) (n2 := 1) r q 0))).toInt := by
  have e := broadcastInDim_apply _ bcast_S512x32x1_S512x32x512_0_1_2 s (ValueIdx.ix3 (n0 := 512) (n1 := 32) (n2 := 512) r q k)
    (ValueIdx.ix3 (n0 := 512) (n1 := 32) (n2 := 1) r q 0) (fun a => by match a with | ⟨0, _⟩ => rfl | ⟨1, _⟩ => rfl | ⟨2, _⟩ => rfl)
  unfold Spec.quant
  rw [← e, ← Spec.host_quant]
  rfl

theorem deqR_at (lg : FVec Ideal S512x16384 .f32) (r : Fin 512) (j : Fin 16384) :
    deqR lg (ValueIdx.ix2 (n0 := 512) (n1 := 16384) r j)
      = Spec.through (fun k => lg (ValueIdx.ix2 (n0 := 512) (n1 := 16384) r k)) j := by
  have hj := j.isLt
  unfold deqR
  rw [shapeCast_apply _ _ _ (ValueIdx.ix3 (n0 := 512) (n1 := 32) (n2 := 512) r ⟨j.val / 512, by omega⟩ ⟨j.val % 512, by omega⟩) (by
    rw [Shape.rowMajor_val_three, Shape.rowMajor_val_two]
    show (r.val * 32 + j.val / 512) * 512 + j.val % 512 = r.val * 16384 + j.val
    omega)]
  rw [mulf_apply, broadcastInDim_apply _ bcast_S512x32x1_S512x32x512_0_1_2 _ _
    (ValueIdx.ix3 (n0 := 512) (n1 := 32) (n2 := 1) r ⟨j.val / 512, by omega⟩ 0) (fun a => by match a with | ⟨0, _⟩ => rfl | ⟨1, _⟩ => rfl | ⟨2, _⟩ => rfl)]
  unfold Spec.through Spec.rebuilt
  have eb : ∀ k : Fin 512, blocksR lg (ValueIdx.ix3 (n0 := 512) (n1 := 32) (n2 := 512) r ⟨j.val / 512, by omega⟩ k)
      = lg (ValueIdx.ix2 (n0 := 512) (n1 := 16384) r (Spec.blk j k)) := fun k => blocksR_at lg r _ k _ rfl
  have es : scaleR (blocksR lg) (ValueIdx.ix3 (n0 := 512) (n1 := 32) (n2 := 1) r ⟨j.val / 512, by omega⟩ 0)
      = Spec.scale fun k => lg (ValueIdx.ix2 (n0 := 512) (n1 := 16384) r (Spec.blk j k)) :=
    (scaleR_at _ r _).trans (congrArg Spec.scale (funext eb))
  have ej : blocksR lg (ValueIdx.ix3 (n0 := 512) (n1 := 32) (n2 := 512) r ⟨j.val / 512, by omega⟩ ⟨j.val % 512, by omega⟩)
      = lg (ValueIdx.ix2 (n0 := 512) (n1 := 16384) r j) := blocksR_at lg r _ _ _ (by dsimp only; omega)
  have e := quantR_at (blocksR lg) (scaleR (blocksR lg)) r ⟨j.val / 512, by omega⟩ ⟨j.val % 512, by omega⟩
  rw [es, ej] at e
  rw [es]
  exact congrArg (fun n : ℤ => ((n : ℝ) : EReal) * _) e

theorem joinR_lo (a b : FVec Ideal S512x16384 .f32) (r : Fin 512) (j : Fin 16384) (h : j.val / 8192 = 0) :
    joinR a b (ValueIdx.ix2 (n0 := 512) (n1 := 16384) r j) = a (ValueIdx.ix2 (n0 := 512) (n1 := 16384) r j) := by
  exact (concatenate_pair_apply_left (t := S512x16384) (s₁ := S512x8192) (s₂ := S512x8192) 1 _ _
    concatenates_S512x8192_S512x8192_S512x16384_d1 (ValueIdx.ix2 (n0 := 512) (n1 := 16384) r j) rfl
    (ValueIdx.ix2 (n0 := 512) (n1 := 8192) r ⟨j.val, by omega⟩) (fun b => by match b with | ⟨0, _⟩ => rfl | ⟨1, _⟩ => rfl)).trans
    (slice2_axis1_apply 0 a slices_S512x16384_S512x8192_0_0 r _ j (by simp))
theorem joinR_hi (a b : FVec Ideal S512x16384 .f32) (r : Fin 512) (j : Fin 16384) (h : j.val / 8192 = 1) :
    joinR a b (ValueIdx.ix2 (n0 := 512) (n1 := 16384) r j) = b (ValueIdx.ix2 (n0 := 512) (n1 := 16384) r j) := by
  have hj := j.isLt
  obtain ⟨k, hk⟩ : ∃ k : Fin 8192, k.val + 8192 = j.val := ⟨⟨j.val - 8192, by omega⟩, by dsimp only; omega⟩
  exact (concatenate_pair_apply_right (t := S512x16384) (s₁ := S512x8192) (s₂ := S512x8192) 1 _ _
    concatenates_S512x8192_S512x8192_S512x16384_d1 (ValueIdx.ix2 (n0 := 512) (n1 := 16384) r j) rfl rfl
    (ValueIdx.ix2 (n0 := 512) (n1 := 8192) r k)
    (fun b hb => by match b with | ⟨0, _⟩ => rfl | ⟨1, _⟩ => exact absurd rfl hb) hk).trans
    (slice2_axis1_apply 8192 b slices_S512x16384_S512x8192_0_8192 r k j (by omega))

theorem maxR_at (h : FVec Ideal S512x16384 .f32) (r : Fin 512) :
    maxR h (ValueIdx.ix1 (n := 512) r) = Spec.top fun k => h (ValueIdx.ix2 (n0 := 512) (n1 := 16384) r k) := by
  have e := congrFun (hostReduce_maximumf_eq_multiReduction h 0xFF800000#32 reducesTo_S512x16384_S512_d1 h_S_ red2 (.inl rfl) rfl)
    (ValueIdx.ix1 (n := 512) r)
  have e' := Ideal.multiReduction_maximumf_single h 0xFF800000#32 red2 (.inl rfl) rfl (ValueIdx.ix1 (n := 512) r)
  have f : h ∘ red2.lift (ValueIdx.ix1 (n := 512) r)
      = fun k : Fin 16384 => h (ValueIdx.ix2 (n0 := 512) (n1 := 16384) r k) := funext fun k => congrArg h (lift2 r k)
  exact e.trans (e'.trans (congrArg (fun v => (Finset.univ : Finset (Fin 16384)).fold max Spec.low v) f))
theorem rowR_at (v : FVec Ideal S512 .f32) (r : Fin 512) (j : Fin 16384) :
    rowR v (ValueIdx.ix2 (n0 := 512) (n1 := 16384) r j) = v (ValueIdx.ix1 (n := 512) r) := by
  unfold rowR
  rw [broadcastInDim_apply _ _ _ _ (ValueIdx.ix2 (n0 := 512) (n1 := 1) r 0) (fun a => by match a with | ⟨0, _⟩ => rfl | ⟨1, _⟩ => rfl),
    broadcastInDim_apply _ _ _ _ (ValueIdx.ix1 (n := 512) r) (fun a => by match a with | ⟨0, _⟩ => rfl)]
theorem expR_at (h : FVec Ideal S512x16384 .f32) (r : Fin 512) (j : Fin 16384) :
    expR h (ValueIdx.ix2 (n0 := 512) (n1 := 16384) r j)
      = Ideal.exp (h (ValueIdx.ix2 (n0 := 512) (n1 := 16384) r j) - Spec.top fun k => h (ValueIdx.ix2 (n0 := 512) (n1 := 16384) r k)) := by
  have e : rowR (maxR h) (ValueIdx.ix2 (n0 := 512) (n1 := 16384) r j) = _ := (rowR_at _ r j).trans (maxR_at h r)
  rw [← e]; rfl
theorem softR_at (h : FVec Ideal S512x16384 .f32) (r : Fin 512) (j : Fin 16384) :
    softR h (ValueIdx.ix2 (n0 := 512) (n1 := 16384) r j)
      = Spec.soft (fun k => h (ValueIdx.ix2 (n0 := 512) (n1 := 16384) r k)) j := by
  have es : Host.reduceAdd (expR h) (constant S_ .f32 0x00000000#32) reducesTo_S512x16384_S512_d1 h_S_ (ValueIdx.ix1 (n := 512) r)
      = ∑ k : Fin 16384, Ideal.exp (h (ValueIdx.ix2 (n0 := 512) (n1 := 16384) r k) - Spec.top fun k => h (ValueIdx.ix2 (n0 := 512) (n1 := 16384) r k)) := by
    refine (Ideal.hostReduceAdd_single reducesTo_S512x16384_S512_d1 red2 (expR h) (Ideal.ofBits .f32 0x00000000#32) (ValueIdx.ix1 (n := 512) r)).trans ?_
    rw [Ideal.ofBits_zero_f32, zero_add]
    exact Finset.sum_congr rfl fun k _ => (congrArg (expR h) (lift2 r k)).trans (expR_at h r k)
  have ez := (rowR_at (Host.reduceAdd (expR h) (constant S_ .f32 0x00000000#32) reducesTo_S512x16384_S512_d1 h_S_) r j).trans es
  unfold softR
  rw [hostDivf_apply, expR_at, ez]
  rfl

/-! ## The result -/

variable (m : (ℓ : Loc nD τ sig) → Buf (Elt Ideal) ℓ) (c : Dev nD)

/-- The logits of a row. -/
def row (r : Fin 512) (j : Fin 16384) : EReal :=
  ∑ k : Fin 1024, argX m c (ValueIdx.ix2 (n0 := 512) (n1 := 1024) r k) * argW m c (ValueIdx.ix2 (n0 := 1024) (n1 := 16384) k j)

theorem mixed_lo (lg : FVec Ideal S512x16384 .f32) (r : Fin 512) :
    (fun k => joinR lg (deqR lg) (ValueIdx.ix2 (n0 := 512) (n1 := 16384) r k))
      = Spec.mixed 0 fun k => lg (ValueIdx.ix2 (n0 := 512) (n1 := 16384) r k) := by
  funext j
  have := j.isLt
  unfold Spec.mixed
  by_cases h : j.val / 8192 = 0
  · rw [if_pos h, joinR_lo _ _ r j h]
  · rw [if_neg h, joinR_hi _ _ r j (by omega), deqR_at]
theorem mixed_hi (lg : FVec Ideal S512x16384 .f32) (r : Fin 512) :
    (fun k => joinR (deqR lg) lg (ValueIdx.ix2 (n0 := 512) (n1 := 16384) r k))
      = Spec.mixed 1 fun k => lg (ValueIdx.ix2 (n0 := 512) (n1 := 16384) r k) := by
  funext j
  have := j.isLt
  unfold Spec.mixed
  by_cases h : j.val / 8192 = 1
  · rw [if_pos h, joinR_hi _ _ r j h]
  · rw [if_neg h, joinR_lo _ _ r j (by omega), deqR_at]

/-- Row `512 x + r` of the result. -/
theorem res_at (x : ℕ) (hx : x ≤ 1) (r : Fin 512) (j : Fin 16384) (i : S1024x16384.Idx) (h0 : (i 0).val = x * 512 + r.val) (h1 : (i 1).val = j.val) :
    res_out0 m c i = Spec.soft (Spec.mixed x (row m c r)) j := by
  rw [res_pieces]
  have er : (fun k => lgR (argX m c) (argW m c) (ValueIdx.ix2 (n0 := 512) (n1 := 16384) r k)) = row m c r := funext fun k => lgR_at _ _ r k
  obtain rfl | rfl : x = 0 ∨ x = 1 := by omega
  · refine (concatenate_pair_apply_left (t := S1024x16384) (s₁ := S512x16384) (s₂ := S512x16384) 0 _ _
      concatenates_S512x16384_S512x16384_S1024x16384_d0 i rfl (ValueIdx.ix2 (n0 := 512) (n1 := 16384) r j)
      (fun b => by match b with
        | ⟨0, _⟩ => exact (show r.val = (i 0).val by omega)
        | ⟨1, _⟩ => exact h1.symm)).trans ?_
    rw [softR_at, mixed_lo, er]
  · refine (concatenate_pair_apply_right (t := S1024x16384) (s₁ := S512x16384) (s₂ := S512x16384) 0 _ _
      concatenates_S512x16384_S512x16384_S1024x16384_d0 i rfl rfl (ValueIdx.ix2 (n0 := 512) (n1 := 16384) r j)
      (fun b hb => by match b with
        | ⟨0, _⟩ => exact absurd rfl hb
        | ⟨1, _⟩ => exact h1.symm)
      (show r.val + 512 = (i 0).val by omega)).trans ?_
    rw [softR_at, mixed_hi, er]

end Cert.ReferenceIdeal.Value

end
-- ==== Proof.Value.Kernel.lean ====
/- The kernel's result at an index: the softmax of a row with the half that the peer sent passed through the quantiser. -/
module

public import proofs.«01_k».proof.Proof.Value.Spec
public import proofs.«01_k».proof.Proof.Ideal.Data

@[expose] public section

noncomputable section

namespace Cert.KernelIdeal.Exchange

open Idealize.ShloMosaic Idealize.ShloMosaic.TcCoe Idealize.SL.Sem Cert.KernelIdeal.Gen
open Idealize.ShloMosaic.ValueIdx Cert

/-! ## The values stored, at an index -/

section Chunk
variable (x : FVec Ideal S512x1024 .bf16) (w : Vec Ideal S1x1024x512 .f32)

theorem pay2_at (r k : Fin 512) : k0_pay2 x w (ValueIdx.ix2 (n0 := 512) (n1 := 512) r k)
    = ∑ c : Fin 1024, x (ValueIdx.ix2 (n0 := 512) (n1 := 1024) r c) * w (ValueIdx.ix3 (n0 := 1) (n1 := 1024) (n2 := 512) 0 c k) := by
  have e := Ideal.matmul_plain_apply (M := 512) (K := 1024) (N := 512) none x
    (truncf .bf16 (shapeCast S1024x512 w shapeCasts_S1x1024x512_S1024x512) bitsLt_bf16_f32) (constant S512x512 .f32 0x00000000#32) r k
  rw [constant_apply, Ideal.ofBits_zero_f32, zero_add] at e
  refine Eq.trans e (Finset.sum_congr rfl fun c _ => ?_)
  exact congrArg (x (ValueIdx.ix2 (n0 := 512) (n1 := 1024) r c) * ·) (shapeCast_1ab_ab_apply w shapeCasts_S1x1024x512_S1024x512 c k)

theorem logitsV_eq : logitsV x w = k0_pay2 x w := by
  unfold logitsV k0_pay3; exact shapeCast_self _ _

theorem liftC (r k : Fin 512) : reduces_S512x512_S512.lift (ValueIdx.ix1 (n := 512) r) k = ValueIdx.ix2 (n0 := 512) (n1 := 512) r k := by
  funext a; match a with | ⟨0, _⟩ => rfl | ⟨1, _⟩ => rfl

theorem topC_at (v : FVec Ideal S512x512 .f32) (r : Fin 512) :
    multiReduction .maximumf [1] S512 v 0xFF800000#32 reduces_S512x512_S512 (.inl rfl) rfl (ValueIdx.ix1 (n := 512) r)
      = Spec.top fun k : Fin 512 => v (ValueIdx.ix2 (n0 := 512) (n1 := 512) r k) := by
  have e' := Ideal.multiReduction_maximumf_single v 0xFF800000#32 reduces_S512x512_S512 (.inl rfl) rfl (ValueIdx.ix1 (n := 512) r)
  have f : v ∘ reduces_S512x512_S512.lift (ValueIdx.ix1 (n := 512) r) = fun k : Fin 512 => v (ValueIdx.ix2 (n0 := 512) (n1 := 512) r k) :=
    funext fun k => congrArg v (liftC r k)
  exact e'.trans (congrArg (fun v => (Finset.univ : Finset (Fin 512)).fold max Spec.low v) f)

theorem pay4_at (r : Fin 512) : k0_pay4 x w (ValueIdx.ix2 (n0 := 512) (n1 := 1) r 0)
    = Spec.scale fun k => logitsV x w (ValueIdx.ix2 (n0 := 512) (n1 := 512) r k) := by
  have e := shapeCast_apply (multiReduction .maximumf [1] S512 (absf (k0_pay2 x w)) 0xFF800000#32 reduces_S512x512_S512 (.inl rfl) rfl)
    shapeCasts_S512_S512x1 (ValueIdx.ix2 (n0 := 512) (n1 := 1) r 0) (ValueIdx.ix1 (n := 512) r) (by
      rw [Shape.rowMajor_val_one, Shape.rowMajor_val_two]; exact (show r.val = r.val * 1 + 0 by omega))
  rw [topC_at] at e
  unfold k0_pay4
  rw [logitsV_eq]
  dsimp only
  rw [maximumf_apply, divf_apply, e]
  rfl

theorem quantV_at (r k : Fin 512) : quantV x w (ValueIdx.ix2 (n0 := 512) (n1 := 512) r k)
    = Spec.quant (logitsV x w (ValueIdx.ix2 (n0 := 512) (n1 := 512) r k))
        (Spec.scale fun k => logitsV x w (ValueIdx.ix2 (n0 := 512) (n1 := 512) r k)) := by
  have e := broadcastTo_apply (k0_pay4 x w) broadcasts_S512x1_S512x512 (ValueIdx.ix2 (n0 := 512) (n1 := 512) r k)
    (ValueIdx.ix2 (n0 := 512) (n1 := 1) r 0) (fun a => by match a with | ⟨0, _⟩ => rfl | ⟨1, _⟩ => rfl)
  rw [← pay4_at, ← e]
  unfold quantV k0_pay5
  rw [shapeCast_self, logitsV_eq]
  rfl

theorem scaleV_at (r : Fin 512) : scaleV x w (ValueIdx.ix3 (n0 := 1) (n1 := 1) (n2 := 512) 0 0 r)
    = Spec.scale fun k => logitsV x w (ValueIdx.ix2 (n0 := 512) (n1 := 512) r k) := by
  rw [← pay4_at]
  unfold scaleV k0_pay7 k0_pay6
  dsimp only
  rw [shapeCast_apply _ shapeCasts_S512_S1x1x512 _ (ValueIdx.ix1 (n := 512) r) (by
      rw [Shape.rowMajor_val_one, Shape.rowMajor_val_three]; exact (show r.val = (0 * 1 + 0) * 512 + r.val by omega)),
    shapeCast_apply _ shapeCasts_S512x1_S512 _ (ValueIdx.ix2 (n0 := 512) (n1 := 1) r 0) (by
      rw [Shape.rowMajor_val_one, Shape.rowMajor_val_two]; exact (show r.val * 1 + 0 = r.val by omega))]

end Chunk

theorem deqV_at (q : Vec Ideal S32x512 .i8) (s : Vec Ideal S1x1x32 .f32) (r : Fin 32) (k : Fin 512) :
    deqV q s (ValueIdx.ix2 (n0 := 32) (n1 := 512) r k)
      = (((BitVec.toInt (q (ValueIdx.ix2 (n0 := 32) (n1 := 512) r k)) : ℤ) : ℝ) : EReal) * s (ValueIdx.ix3 (n0 := 1) (n1 := 1) (n2 := 32) 0 0 r) := by
  unfold deqV k0_pay95
  rw [mulf_apply, broadcastTo_apply _ broadcasts_S32x1_S32x512 _ (ValueIdx.ix2 (n0 := 32) (n1 := 1) r 0)
      (fun a => by match a with | ⟨0, _⟩ => rfl | ⟨1, _⟩ => rfl),
    shapeCast_apply _ shapeCasts_S32_S32x1 _ (ValueIdx.ix1 (n := 32) r) (by
      rw [Shape.rowMajor_val_one, Shape.rowMajor_val_two]; exact (show r.val = r.val * 1 + 0 by omega)),
    shapeCast_apply _ shapeCasts_S1x1x32_S32 _ (ValueIdx.ix3 (n0 := 1) (n1 := 1) (n2 := 32) 0 0 r) (by
      rw [Shape.rowMajor_val_one, Shape.rowMajor_val_three]; exact (show (0 * 1 + 0) * 32 + r.val = r.val by omega))]
  rfl

theorem nbV_at (p : Fin 16 → FVec Ideal S32x512 .f32) (r : Fin 32) (j : Fin 8192) :
    nbV p (ValueIdx.ix2 (n0 := 32) (n1 := 8192) r j) = p (chk j) (ValueIdx.ix2 (n0 := 32) (n1 := 512) r (inchk j)) :=
  concatenate_ofFn_apply (t := S32x8192) (s₁ := S32x512) 1 p
    concatenates_S32x512_S32x512_S32x512_S32x512_S32x512_S32x512_S32x512_S32x512_S32x512_S32x512_S32x512_S32x512_S32x512_S32x512_S32x512_S32x512_S32x8192_d1
    rfl 512 rfl (ValueIdx.ix2 (n0 := 32) (n1 := 8192) r j) (chk j) rfl (ValueIdx.ix2 (n0 := 32) (n1 := 512) r (inchk j)) rfl
    (fun b hb => by match b with | ⟨0, _⟩ => rfl | ⟨1, _⟩ => exact absurd rfl hb)

/-! ## The softmax of a stripe -/

theorem liftS (r : Fin 32) (k : Fin 8192) : reduces_S32x8192_S32.lift (ValueIdx.ix1 (n := 32) r) k = ValueIdx.ix2 (n0 := 32) (n1 := 8192) r k := by
  funext a; match a with | ⟨0, _⟩ => rfl | ⟨1, _⟩ => rfl

theorem col_at (v : FVec Ideal S32 .f32) (r : Fin 32) :
    shapeCast S32x1 v shapeCasts_S32_S32x1 (ValueIdx.ix2 (n0 := 32) (n1 := 1) r 0) = v (ValueIdx.ix1 (n := 32) r) :=
  shapeCast_apply _ _ _ _ (by rw [Shape.rowMajor_val_one, Shape.rowMajor_val_two]; exact (show r.val = r.val * 1 + 0 by omega))

theorem topS_at (v : FVec Ideal S32x8192 .f32) (r : Fin 32) :
    multiReduction .maximumf [1] S32 v 0xFF800000#32 reduces_S32x8192_S32 (.inl rfl) rfl (ValueIdx.ix1 (n := 32) r)
      = Spec.top fun k : Fin 8192 => v (ValueIdx.ix2 (n0 := 32) (n1 := 8192) r k) := by
  have e' := Ideal.multiReduction_maximumf_single v 0xFF800000#32 reduces_S32x8192_S32 (.inl rfl) rfl (ValueIdx.ix1 (n := 32) r)
  have f : v ∘ reduces_S32x8192_S32.lift (ValueIdx.ix1 (n := 32) r) = fun k : Fin 8192 => v (ValueIdx.ix2 (n0 := 32) (n1 := 8192) r k) :=
    funext fun k => congrArg v (liftS r k)
  exact e'.trans (congrArg (fun v => (Finset.univ : Finset (Fin 8192)).fold max Spec.low v) f)
theorem addS_at (v : FVec Ideal S32x8192 .f32) (r : Fin 32) :
    multiReduction .add [1] S32 v 0x00000000#32 reduces_S32x8192_S32 (.inl rfl) rfl (ValueIdx.ix1 (n := 32) r)
      = ∑ k : Fin 8192, v (ValueIdx.ix2 (n0 := 32) (n1 := 8192) r k) :=
  (Ideal.multiReduction_add_single v 0x00000000#32 reduces_S32x8192_S32 (.inl rfl) rfl (ValueIdx.ix1 (n := 32) r)).trans
    (Finset.sum_congr rfl fun k _ => congrArg v (liftS r k))

theorem maxV_at (a b : FVec Ideal S32x8192 .f32) (r : Fin 32) : maxV a b (ValueIdx.ix2 (n0 := 32) (n1 := 1) r 0)
    = max (Spec.top fun k : Fin 8192 => a (ValueIdx.ix2 (n0 := 32) (n1 := 8192) r k))
        (Spec.top fun k : Fin 8192 => b (ValueIdx.ix2 (n0 := 32) (n1 := 8192) r k)) := by
  unfold maxV; rw [maximumf_apply, col_at, col_at, topS_at, topS_at]
theorem sumV_at (a b : FVec Ideal S32x8192 .f32) (r : Fin 32) : sumV a b (ValueIdx.ix2 (n0 := 32) (n1 := 1) r 0)
    = (∑ k : Fin 8192, a (ValueIdx.ix2 (n0 := 32) (n1 := 8192) r k)) + ∑ k : Fin 8192, b (ValueIdx.ix2 (n0 := 32) (n1 := 8192) r k) := by
  unfold sumV; rw [addf_apply, col_at, col_at, addS_at, addS_at]
theorem wide_at (z : FVec Ideal S32x1 .f32) (r : Fin 32) (k : Fin 8192) :
    broadcastTo S32x8192 z broadcasts_S32x1_S32x8192 (ValueIdx.ix2 (n0 := 32) (n1 := 8192) r k) = z (ValueIdx.ix2 (n0 := 32) (n1 := 1) r 0) :=
  broadcastTo_apply _ _ _ _ (fun a => by match a with | ⟨0, _⟩ => rfl | ⟨1, _⟩ => rfl)
theorem expV_at (a : FVec Ideal S32x8192 .f32) (z : FVec Ideal S32x1 .f32) (r : Fin 32) (k : Fin 8192) :
    expV a z (ValueIdx.ix2 (n0 := 32) (n1 := 8192) r k)
      = Ideal.exp (a (ValueIdx.ix2 (n0 := 32) (n1 := 8192) r k) - z (ValueIdx.ix2 (n0 := 32) (n1 := 1) r 0)) := by
  rw [← wide_at z r k]; rfl
theorem divV_at (e : FVec Ideal S32x8192 .f32) (z : FVec Ideal S32x1 .f32) (r : Fin 32) (k : Fin 8192) :
    divV e z (ValueIdx.ix2 (n0 := 32) (n1 := 8192) r k)
      = Ideal.div (e (ValueIdx.ix2 (n0 := 32) (n1 := 8192) r k)) (z (ValueIdx.ix2 (n0 := 32) (n1 := 1) r 0)) := by
  unfold divV; rw [shapeCast_self, divf_apply, wide_at]

section Stripe
variable (a : FVec Ideal S32x8192 .f32) (p : Fin 16 → FVec Ideal S32x512 .f32) (r : Fin 32) (h : Fin 16384 → EReal) (x : ℕ) (hx : x ≤ 1)
  (ha : ∀ k, a (ValueIdx.ix2 (n0 := 32) (n1 := 8192) r k) = h (Spec.half x hx k))
  (hp : ∀ k, nbV p (ValueIdx.ix2 (n0 := 32) (n1 := 8192) r k) = h (Spec.half (1 - x) (Nat.sub_le 1 x) k))
include ha hp

theorem stripe_max : maxV a (nbV p) (ValueIdx.ix2 (n0 := 32) (n1 := 1) r 0) = Spec.top h := by
  rw [maxV_at, Spec.top_halves h x hx]; simp only [ha, hp]
theorem stripe_sum : sumV (expV a (maxV a (nbV p))) (expV (nbV p) (maxV a (nbV p))) (ValueIdx.ix2 (n0 := 32) (n1 := 1) r 0)
    = ∑ k : Fin 16384, Ideal.exp (h k - Spec.top h) := by
  rw [sumV_at, Spec.sum_halves _ x hx]; simp only [expV_at, stripe_max a p r h x hx ha hp, ha, hp]
theorem softMy_at (k : Fin 8192) : softMy a p (ValueIdx.ix2 (n0 := 32) (n1 := 8192) r k) = Spec.soft h (Spec.half x hx k) := by
  unfold softMy Spec.soft; rw [divV_at, stripe_sum a p r h x hx ha hp, expV_at, stripe_max a p r h x hx ha hp, ha]
theorem softNb_at (k : Fin 8192) : softNb a p (ValueIdx.ix2 (n0 := 32) (n1 := 8192) r k)
    = Spec.soft h (Spec.half (1 - x) (Nat.sub_le 1 x) k) := by
  unfold softNb Spec.soft; rw [divV_at, stripe_sum a p r h x hx ha hp, expV_at, stripe_max a p r h x hx ha hp, hp]

end Stripe

/-! ## What a device holds, when the arguments are a whole array and a half of one -/

/-- Column `k` of chunk `c` of the half. -/
def ccol (x : ℕ) (hx : x ≤ 1) (c : Fin 16) (k : Fin 512) : Fin 16384 := Spec.half x hx ⟨512 * c.val + k.val, by omega⟩

theorem col_chk (x : ℕ) (hx : x ≤ 1) (j : Fin 8192) : ccol x hx (chk j) (inchk j) = Spec.half x hx j :=
  Fin.ext (by simp only [ccol, Spec.half, chk, inchk]; omega)

variable (m : Mem Ideal) (X : S512x1024.Idx → EReal) (W : (⟨2, ![1024, 16384]⟩ : Shape).Idx → EReal)

/-- The staged `x` is the whole argument. -/
theorem xstg_eq (d : Dev nD) : xstg m d = m ((d : Thread nD τ).loc main_arg0) := by
  have e : ∀ i : S512x1024.Idx, ((win0_0.rect (0 : Fin 1)).emb i : S512x1024.Idx) = i := fun i => funext fun a => Fin.ext (by
    rw [Rect.emb_apply]
    show 0 * _ + 1 * (i a).val = (i a).val
    omega)
  funext i
  exact congrArg (m ((d : Thread nD τ).loc main_arg0)) (e i)

/-- The logits of a row. -/
def line (r : Fin 512) (j : Fin 16384) : EReal :=
  ∑ k : Fin 1024, X (ValueIdx.ix2 (n0 := 512) (n1 := 1024) r k) * W (ValueIdx.ix2 (n0 := 1024) (n1 := 16384) k j)

theorem d1 (d : Dev nD) : d.val / 8 ≤ 1 := by have := d8 d; omega
theorem peer8 : ∀ d : Dev nD, (peer d).val / 8 = 1 - d.val / 8 := by decide +kernel

/-- Device `d` holds `X`, and the half of `W` its first coordinate names. -/
structure Holds (d : Dev nD) : Prop where
  x : m ((d : Thread nD τ).loc main_arg0) = X
  w : ∀ (k : Fin 1024) (j : Fin 8192), wArr m d (ValueIdx.ix2 (n0 := 1024) (n1 := 8192) k j)
    = W (ValueIdx.ix2 (n0 := 1024) (n1 := 16384) k (Spec.half (d.val / 8) (d1 d) j))

variable {m X W} (d : Dev nD) (H : Holds m X W d)
include H

theorem xv_at (r : Fin 512) (k : Fin 1024) : xv m d (ValueIdx.ix2 (n0 := 512) (n1 := 1024) r k) = X (ValueIdx.ix2 (n0 := 512) (n1 := 1024) r k) := by
  rw [← H.x]
  unfold xv k0_pay1
  rw [shapeCast_self]
  exact congrFun (xstg_eq m d) _

theorem lgV_at (c : Fin 16) (r k : Fin 512) : lgV m d c (ValueIdx.ix2 (n0 := 512) (n1 := 512) r k)
    = line X W r (ccol (d.val / 8) (d1 d) c k) := by
  unfold lgV line ccol
  rw [logitsV_eq, pay2_at]
  refine Finset.sum_congr rfl fun i _ => ?_
  rw [xv_at d H, ← H.w]
  rfl

theorem dqP_at (s c : Fin 16) (r : Fin 32) (k : Fin 512) : dqP m d s c (ValueIdx.ix2 (n0 := 32) (n1 := 512) r k)
    = Spec.through (line X W (srow s r)) (ccol (d.val / 8) (d1 d) c k) := by
  have es : (fun k => logitsV (xv m d) (wv m d c) (ValueIdx.ix2 (n0 := 512) (n1 := 512) (srow s r) k))
      = fun k' => line X W (srow s r) (Spec.blk (ccol (d.val / 8) (d1 d) c k) k') := by
    funext k'
    refine (lgV_at d H c (srow s r) k').trans (congrArg (line X W (srow s r)) (Fin.ext ?_))
    have := d1 d
    simp only [ccol, Spec.half, Spec.blk]
    omega
  have eq : qP m d s c (ValueIdx.ix2 (n0 := 32) (n1 := 512) r k) = Spec.quant (line X W (srow s r) (ccol (d.val / 8) (d1 d) c k))
      (Spec.scale fun k' => line X W (srow s r) (Spec.blk (ccol (d.val / 8) (d1 d) c k) k')) := by
    refine (quantV_at (xv m d) (wv m d c) (srow s r) k).trans ?_
    rw [es, show logitsV (xv m d) (wv m d c) (ValueIdx.ix2 (n0 := 512) (n1 := 512) (srow s r) k) = _ from lgV_at d H c (srow s r) k]
  have ec : sP m d s c (ValueIdx.ix3 (n0 := 1) (n1 := 1) (n2 := 32) 0 0 r)
      = Spec.scale fun k' => line X W (srow s r) (Spec.blk (ccol (d.val / 8) (d1 d) c k) k') := by
    refine (scaleV_at (xv m d) (wv m d c) (srow s r)).trans ?_
    rw [es]
  unfold dqP
  rw [deqV_at, eq, ec]
  rfl

theorem nb_at (s : Fin 16) (r : Fin 32) (j : Fin 8192) : nbV (dqP m d s) (ValueIdx.ix2 (n0 := 32) (n1 := 8192) r j)
    = Spec.through (line X W (srow s r)) (Spec.half (d.val / 8) (d1 d) j) := by
  rw [nbV_at, dqP_at d H, col_chk]

theorem lgS_at (s : Fin 16) (r : Fin 32) (j : Fin 8192) : lgS m d s (ValueIdx.ix2 (n0 := 32) (n1 := 8192) r j)
    = line X W (srow s r) (Spec.half (d.val / 8) (d1 d) j) :=
  (lgV_at d H (chk j) (srow s r) (inchk j)).trans (congrArg (line X W (srow s r)) (col_chk _ _ j))

/-- The result at a row and a column. -/
theorem outF_at (H' : Holds m X W (peer d)) (r : Fin 512) (j : Fin 16384) :
    outF m d (ValueIdx.ix2 (n0 := 512) (n1 := 16384) r j) = Spec.soft (Spec.mixed (d.val / 8) (line X W r)) j := by
  have hd := d1 d
  have hr : srow (strp r) (instrp r) = r := Fin.ext (by simp only [srow, strp, instrp]; omega)
  have ha : ∀ k, lgS m d (strp r) (ValueIdx.ix2 (n0 := 32) (n1 := 8192) (instrp r) k)
      = Spec.mixed (d.val / 8) (line X W r) (Spec.half (d.val / 8) hd k) := fun k => by
    rw [lgS_at d H, hr]
    unfold Spec.mixed
    rw [if_pos (by simp only [Spec.half]; omega)]
  have hp : ∀ k, nbV (dqP m (peer d) (strp r)) (ValueIdx.ix2 (n0 := 32) (n1 := 8192) (instrp r) k)
      = Spec.mixed (d.val / 8) (line X W r) (Spec.half (1 - d.val / 8) (Nat.sub_le 1 _) k) := fun k => by
    rw [nb_at (peer d) H', hr]
    unfold Spec.mixed
    rw [if_neg (by simp only [Spec.half]; omega)]
    exact congrArg (Spec.through (line X W r)) (Fin.ext (show 8192 * ((peer d).val / 8) + k.val = 8192 * (1 - d.val / 8) + k.val by rw [peer8]))
  rcases Spec.half_cases (d.val / 8) hd j with ⟨k, rfl⟩ | ⟨k, rfl⟩
  · refine (outF_my m d (strp r) _ (instrp r) k (show r.val = 32 * (r.val / 32) + r.val % 32 by omega) rfl).trans ?_
    exact softMy_at _ _ (instrp r) _ (d.val / 8) hd ha hp k
  · refine (outF_nb m d (strp r) _ (instrp r) k (show r.val = 32 * (r.val / 32) + r.val % 32 by omega)
      (show 8192 * (1 - d.val / 8) + k.val = 8192 - 8192 * (d.val / 8) + k.val by omega)).trans ?_
    exact softNb_at _ _ (instrp r) _ (d.val / 8) hd ha hp k

end Cert.KernelIdeal.Exchange

end
-- ==== Proof.lean ====
/- The claims: the kernel's runs from the exchange's launch, the reference's from its operations in order,
   and their results meet index by index. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Adequacy
public import Idealize.ShloMosaic.Init
public import Idealize.ShloMosaic.Lib.Quiescent
public import proofs.«01_k».proof.Proof.Gen.ReferenceIdeal
public import proofs.«01_k».proof.Proof.Gen.ReferenceIdeal.Run
public import proofs.«01_k».proof.Proof.Ideal.Launch
public import proofs.«01_k».proof.Proof.Float.Launch
public import proofs.«01_k».proof.Proof.Value.Reference
public import proofs.«01_k».proof.Proof.Value.Kernel

@[expose] public section

noncomputable section

namespace Cert.Proof

open Idealize.ShloMosaic Idealize.SL.Sem

theorem frame_kernel : Cert.quiescent_Kernel (hKernel := Cert.Kernel.Gen.facts) := fun m g _ =>
  (θ_run _ _ _).mono (fun _ h => ⟨fun c => (h.1 c).2, h.2⟩) (Cert.Kernel.Exchange.run_main m g)

theorem frame_ideal : Cert.quiescent_KernelIdeal (hKernelIdeal := Cert.KernelIdeal.Gen.facts) := fun m g _ =>
  (θ_run _ _ _).mono (fun _ h => ⟨fun c => (h.1 c).2, h.2⟩) (Cert.KernelIdeal.Exchange.run_main m g)

/-- The reference has no semaphores. -/
theorem no_sems (x : Thread Cert.ReferenceIdeal.nD Cert.ReferenceIdeal.τ × SemLoc Cert.ReferenceIdeal.sig → ℤ) : x = fun _ => 0 := by
  funext l
  obtain ⟨_, sm⟩ := l
  cases sm <;> rename_i i <;> exact i.elim0

theorem frame_reference : Cert.quiescent_ReferenceIdeal (hReferenceIdeal := Cert.ReferenceIdeal.Gen.facts) := fun m g _ =>
  (θ_run _ _ _).mono (fun _ h => ⟨fun c => (h c).2, no_sems _⟩) (Cert.ReferenceIdeal.Value.run (F := Ideal) m g)

/-- A device's first coordinate of the mesh, as the layout counts it. -/
theorem along : ∀ c : Dev Cert.KernelIdeal.nD, Layout.meshLin [2, 2, 4] c.val [0] = c.val / 8 := by decide +kernel

theorem algebraic : Cert.algebraic_KernelIdeal_ReferenceIdeal (hKernelIdeal := Cert.KernelIdeal.Gen.facts) (hReferenceIdeal := Cert.ReferenceIdeal.Gen.facts) := by
  intro m g m' g' _ hm
  have H : ∀ c : Dev Cert.KernelIdeal.nD, Cert.KernelIdeal.Exchange.Holds m
      (Cert.ReferenceIdeal.Value.argX m' 0) (Cert.ReferenceIdeal.Value.argW m' 0) c := fun c => by
    refine ⟨(hm c).1, fun k j => ?_⟩
    refine (congrFun (hm c).2 (ValueIdx.ix2 (n0 := 1024) (n1 := 8192) k j)).trans ?_
    rw [Layout.blockN_apply]
    refine congrArg (Cert.ReferenceIdeal.Value.argW m' 0) (funext fun a => Fin.ext ?_)
    match a with
    | ⟨0, _⟩ => exact (show 0 * 1024 + k.val = k.val by omega)
    | ⟨1, _⟩ =>
      refine (show _ = Layout.meshLin [2, 2, 4] c.val [0] * 8192 + j.val from rfl).trans ?_
      rw [along]
      exact (show c.val / 8 * 8192 + j.val = 8192 * (c.val / 8) + j.val by omega)
  refine ⟨Cert.ReferenceIdeal.Value.res_out0 m' 0,
    (θ_run _ _ _).mono (fun _ h c => ⟨(h.1 c).1.trans (funext fun i => ?_), (h.1 c).2⟩) (Cert.KernelIdeal.Exchange.run_main m g),
    (θ_run _ _ _).mono (fun _ h => h 0) (Cert.ReferenceIdeal.Value.run (F := Ideal) m' g')⟩
  rw [Layout.blockN_apply]
  have ei : i = ValueIdx.ix2 (n0 := 512) (n1 := 16384) (i 0) (i 1) := funext fun a => by
    match a with
    | ⟨0, _⟩ => rfl
    | ⟨1, _⟩ => rfl
  have e := Cert.KernelIdeal.Exchange.outF_at c (H c) (H (Cert.KernelIdeal.Exchange.peer c)) (i 0) (i 1)
  rw [← ei] at e
  refine e.trans (Cert.ReferenceIdeal.Value.res_at m' 0 (c.val / 8) (Cert.KernelIdeal.Exchange.d1 c) (i 0) (i 1) _ ?_ ?_).symm
  · refine (show _ = Layout.meshLin [2, 2, 4] c.val [0] * 512 + (i 0).val from rfl).trans ?_
    rw [along]
  · exact (show 0 * 16384 + (i 1).val = (i 1).val by omega)

theorem claim : Cert.Claim :=
  ⟨Cert.Kernel.Gen.facts, Cert.KernelIdeal.Gen.facts, Cert.ReferenceIdeal.Gen.facts, frame_kernel, frame_ideal, frame_reference, trivial, algebraic⟩

end Cert.Proof

end
